-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S10000000x24 : Shape := ⟨2, ![10000000, 24]⟩
abbrev S24x256x96 : Shape := ⟨3, ![24, 256, 96]⟩
abbrev S24x256 : Shape := ⟨2, ![24, 256]⟩
abbrev S12288 : Shape := ⟨1, ![12288]⟩
abbrev S257 : Shape := ⟨1, ![257]⟩
abbrev S786432 : Shape := ⟨1, ![786432]⟩
abbrev S_ : Shape := ⟨0, ![]⟩
abbrev S12288x1 : Shape := ⟨2, ![12288, 1]⟩
abbrev S12288x24 : Shape := ⟨2, ![12288, 24]⟩
abbrev S256 : Shape := ⟨1, ![256]⟩
abbrev S1x256 : Shape := ⟨2, ![1, 256]⟩
abbrev S12288x256 : Shape := ⟨2, ![12288, 256]⟩
abbrev S12288x24x1 : Shape := ⟨3, ![12288, 24, 1]⟩
abbrev S1x1x256 : Shape := ⟨3, ![1, 1, 256]⟩
abbrev S12288x24x256 : Shape := ⟨3, ![12288, 24, 256]⟩
abbrev S256x24x256 : Shape := ⟨3, ![256, 24, 256]⟩
abbrev S16x2x8x2x12x2x128 : Shape := ⟨7, ![16, 2, 8, 2, 12, 2, 128]⟩
abbrev S2x2x16x12x2x8x128 : Shape := ⟨7, ![2, 2, 16, 12, 2, 8, 128]⟩
abbrev S2x16x12x2x8x128 : Shape := ⟨6, ![2, 16, 12, 2, 8, 128]⟩
abbrev S1x2x16x12x2x8x128 : Shape := ⟨7, ![1, 2, 16, 12, 2, 8, 128]⟩
abbrev S1 : Shape := ⟨1, ![1]⟩

class Facts : Prop where
  bcast_S_S12288 : S_.BroadcastsInDim S12288 (![] : Fin 0 → Fin S12288.rank)
  bcast_S12288_S12288x1_0 : S12288.BroadcastsInDim S12288x1 (![0] : Fin 1 → Fin S12288x1.rank)
  natLt_8_32 : 8 < 32
  slices_S257_S256_1 : S257.Slices ![1] S256
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  bcast_S12288x1_S12288x256_0_1 : S12288x1.BroadcastsInDim S12288x256 (![0, 1] : Fin 2 → Fin S12288x256.rank)
  natLt_1_32 : 1 < 32
  reducesTo_S12288x256_S12288_d1 : S12288x256.ReducesTo [1] S12288
  h_S_ : 0 < S_.numel
  bcast_S12288x24_S12288x24x1_0_1 : S12288x24.BroadcastsInDim S12288x24x1 (![0, 1] : Fin 2 → Fin S12288x24x1.rank)
  bcast_S256_S1x1x256_2 : S256.BroadcastsInDim S1x1x256 (![2] : Fin 1 → Fin S1x1x256.rank)
  bcast_S12288x24x1_S12288x24x256_0_1_2 : S12288x24x1.BroadcastsInDim S12288x24x256 (![0, 1, 2] : Fin 3 → Fin S12288x24x256.rank)
  bcast_S1x1x256_S12288x24x256_0_1_2 : S1x1x256.BroadcastsInDim S12288x24x256 (![0, 1, 2] : Fin 3 → Fin S12288x24x256.rank)
  shapeCasts_S256x24x256_S16x2x8x2x12x2x128 : S256x24x256.ShapeCasts S16x2x8x2x12x2x128
  transposes_S16x2x8x2x12x2x128_S2x2x16x12x2x8x128_1_3_0_4_5_2_6 : S16x2x8x2x12x2x128.Transposes [1, 3, 0, 4, 5, 2, 6] S2x2x16x12x2x8x128
  shapeCasts_S786432_S2x16x12x2x8x128 : S786432.ShapeCasts S2x16x12x2x8x128
  bcast_S_S2x16x12x2x8x128 : S_.BroadcastsInDim S2x16x12x2x8x128 (![] : Fin 0 → Fin S2x16x12x2x8x128.rank)
  slices_S2x2x16x12x2x8x128_S1x2x16x12x2x8x128_0_0_0_0_0_0_0 : S2x2x16x12x2x8x128.Slices ![0, 0, 0, 0, 0, 0, 0] S1x2x16x12x2x8x128
  shapeCasts_S1x2x16x12x2x8x128_S2x16x12x2x8x128 : S1x2x16x12x2x8x128.ShapeCasts S2x16x12x2x8x128
  reducesTo_S2x16x12x2x8x128_S_d0_1_2_3_4_5 : S2x16x12x2x8x128.ReducesTo [0, 1, 2, 3, 4, 5] S_
  slices_S2x2x16x12x2x8x128_S1x2x16x12x2x8x128_1_0_0_0_0_0_0 : S2x2x16x12x2x8x128.Slices ![1, 0, 0, 0, 0, 0, 0] S1x2x16x12x2x8x128
  slices_S257_S1_0 : S257.Slices ![0] S1
  shapeCasts_S1_S_ : S1.ShapeCasts S_
  slices_S257_S256_0 : S257.Slices ![0] S256
  reducesTo_S256_S_d0 : S256.ReducesTo [0] S_
  bcast_S_S24x256 : S_.BroadcastsInDim S24x256 (![] : Fin 0 → Fin S24x256.rank)
  reducesTo_S24x256_S_d0_1 : S24x256.ReducesTo [0, 1] S_
  gather_S10000000x24_S12288x1_S12288x24_1_0_n_n_0_1_124_wf : GatherDims.WF S10000000x24 S12288x1 S12288x24 [1] [0] [] [0] [] 1 ![1, 24]
  dot_S12288x256_S12288x24x256_S256x24x256_0_0_1_12_n_n_wf : DotDims.WF S12288x256 S12288x24x256 S256x24x256 [0] [0] [1] [1, 2] [] []

variable [Facts]

def gather_S10000000x24_S12288x1_S12288x24_1_0_n_n_0_1_124 : GatherDims S10000000x24 S12288x1 S12288x24 where
  offsetDims := [1]
  collapsedSliceDims := [0]
  operandBatchingDims := []
  startIndicesBatchingDims := []
  startIndexMap := [0]
  indexVectorDim := 1
  sliceSizes := ![1, 24]
  wf := gather_S10000000x24_S12288x1_S12288x24_1_0_n_n_0_1_124_wf
def dot_S12288x256_S12288x24x256_S256x24x256_0_0_1_12_n_n : DotDims S12288x256 S12288x24x256 S256x24x256 where
  lhsContracting := [0]
  rhsContracting := [0]
  lhsNonContracting := [1]
  rhsNonContracting := [1, 2]
  lhsBatch := []
  rhsBatch := []
  wf := dot_S12288x256_S12288x24x256_S256x24x256_0_0_1_12_n_n_wf
def fn_part3 {F : FTy → Type} [FloatOps F] (main_v58 : IVec S_ 1) (main_v61 : IVec S24x256 1) : IVec S_ 1 :=
  let main_c_8 : IVec S_ 1 := constantI S_ 1 1#1
  let main_v62 : IVec S_ 1 := (fun x v => Host.reduce IntOp.andi x v reducesTo_S24x256_S_d0_1 h_S_) main_v61 main_c_8
  let main_v63 : IVec S_ 1 := andi main_v58 main_v62
  main_v63

def fn_part2 {F : FTy → Type} [FloatOps F] (main_arg2 : FVec F S24x256 .f32) (main_arg4 : IVec S257 32) (main_v33 : FVec F S2x2x16x12x2x8x128 .f32) (main_v34 : IVec S2x16x12x2x8x128 32) (main_v41 : IVec S_ 1) (main_c_4 : IVec S_ 32) : IVec S_ 1 :=
  let main_v42 : IVec S2x16x12x2x8x128 32 := broadcastInDim S2x16x12x2x8x128 ![] bcast_S_S2x16x12x2x8x128 main_c_4
  let main_v43 : IVec S2x16x12x2x8x128 32 := Host.shrui main_v34 main_v42
  let main_v44 : FVec F S2x16x12x2x8x128 .f32 := sitofp .f32 main_v43
  let main_v45 : FVec F S1x2x16x12x2x8x128 .f32 := (extractStridedSlice S1x2x16x12x2x8x128 ![1, 0, 0, 0, 0, 0, 0] · slices_S2x2x16x12x2x8x128_S1x2x16x12x2x8x128_1_0_0_0_0_0_0) main_v33
  let main_v46 : FVec F S2x16x12x2x8x128 .f32 := shapeCast S2x16x12x2x8x128 main_v45 shapeCasts_S1x2x16x12x2x8x128_S2x16x12x2x8x128
  let main_v47 : IVec S2x16x12x2x8x128 1 := cmpf .oeq main_v44 main_v46
  let main_c_5 : IVec S_ 1 := constantI S_ 1 1#1
  let main_v48 : IVec S_ 1 := (fun x v => Host.reduce IntOp.andi x v reducesTo_S2x16x12x2x8x128_S_d0_1_2_3_4_5 h_S_) main_v47 main_c_5
  let main_v49 : IVec S_ 1 := andi main_v41 main_v48
  let main_v50 : IVec S1 32 := (extractStridedSlice S1 ![0] · slices_S257_S1_0) main_arg4
  let main_v51 : IVec S_ 32 := shapeCast S_ main_v50 shapeCasts_S1_S_
  let main_c_6 : IVec S_ 32 := constantI S_ 32 0#32
  let main_v52 : IVec S_ 1 := cmpi .eq main_v51 main_c_6
  let main_v53 : IVec S_ 1 := andi main_v49 main_v52
  let main_v54 : IVec S256 32 := (extractStridedSlice S256 ![0] · slices_S257_S256_0) main_arg4
  let main_v55 : IVec S256 32 := (extractStridedSlice S256 ![1] · slices_S257_S256_1) main_arg4
  let main_v56 : IVec S256 1 := cmpi .sle main_v54 main_v55
  let main_c_7 : IVec S_ 1 := constantI S_ 1 1#1
  let main_v57 : IVec S_ 1 := (fun x v => Host.reduce IntOp.andi x v reducesTo_S256_S_d0 h_S_) main_v56 main_c_7
  let main_v58 : IVec S_ 1 := andi main_v53 main_v57
  let main_v59 : FVec F S24x256 .f32 := Host.absf main_arg2
  let main_cst : FVec F S_ .f32 := constant S_ .f32 0x7F800000#32
  let main_v60 : FVec F S24x256 .f32 := broadcastInDim S24x256 ![] bcast_S_S24x256 main_cst
  let main_v61 : IVec S24x256 1 := cmpf .olt main_v59 main_v60
  fn_part3 (F := F) main_v58 main_v61

def fn_part1 {F : FTy → Type} [FloatOps F] (main_arg2 : FVec F S24x256 .f32) (main_arg4 : IVec S257 32) (main_arg5 : IVec S786432 32) (main_v16 : IVec S12288 32) (main_v19 : IVec S1x1x256 32) (main_v20 : IVec S12288x24x256 32) : IVec S_ 1 :=
  let main_v21 : IVec S12288x24x256 32 := broadcastInDim S12288x24x256 ![0, 1, 2] bcast_S1x1x256_S12288x24x256_0_1_2 main_v19
  let main_v22 : IVec S12288x24x256 1 := cmpi .eq main_v20 main_v21
  let main_v23 : FVec F S12288x24x256 .f32 := uitofp .f32 main_v22
  let main_v24 : IVec S12288x1 32 := broadcastInDim S12288x1 ![0] bcast_S12288_S12288x1_0 main_v16
  let main_v25 : IVec S256 32 := iotaInDim S256 32 0
  let main_v26 : IVec S1x256 32 := broadcastInDim S1x256 ![1] bcast_S256_S1x256_1 main_v25
  let main_v27 : IVec S12288x256 32 := broadcastInDim S12288x256 ![0, 1] bcast_S12288x1_S12288x256_0_1 main_v24
  let main_v28 : IVec S12288x256 32 := broadcastInDim S12288x256 ![0, 1] bcast_S1x256_S12288x256_0_1 main_v26
  let main_v29 : IVec S12288x256 1 := cmpi .eq main_v27 main_v28
  let main_v30 : FVec F S12288x256 .f32 := uitofp .f32 main_v29
  let main_v31 : FVec F S256x24x256 .f32 := (fun l r => Host.dotGeneral dot_S12288x256_S12288x24x256_S256x24x256_0_0_1_12_n_n none l r) main_v30 main_v23
  let main_v32 : FVec F S16x2x8x2x12x2x128 .f32 := shapeCast S16x2x8x2x12x2x128 main_v31 shapeCasts_S256x24x256_S16x2x8x2x12x2x128
  let main_v33 : FVec F S2x2x16x12x2x8x128 .f32 := (transpose S2x2x16x12x2x8x128 [1, 3, 0, 4, 5, 2, 6] · transposes_S16x2x8x2x12x2x128_S2x2x16x12x2x8x128_1_3_0_4_5_2_6) main_v32
  let main_v34 : IVec S2x16x12x2x8x128 32 := shapeCast S2x16x12x2x8x128 main_arg5 shapeCasts_S786432_S2x16x12x2x8x128
  let main_c_2 : IVec S_ 32 := constantI S_ 32 65535#32
  let main_v35 : IVec S2x16x12x2x8x128 32 := broadcastInDim S2x16x12x2x8x128 ![] bcast_S_S2x16x12x2x8x128 main_c_2
  let main_v36 : IVec S2x16x12x2x8x128 32 := andi main_v34 main_v35
  let main_v37 : FVec F S2x16x12x2x8x128 .f32 := sitofp .f32 main_v36
  let main_v38 : FVec F S1x2x16x12x2x8x128 .f32 := (extractStridedSlice S1x2x16x12x2x8x128 ![0, 0, 0, 0, 0, 0, 0] · slices_S2x2x16x12x2x8x128_S1x2x16x12x2x8x128_0_0_0_0_0_0_0) main_v33
  let main_v39 : FVec F S2x16x12x2x8x128 .f32 := shapeCast S2x16x12x2x8x128 main_v38 shapeCasts_S1x2x16x12x2x8x128_S2x16x12x2x8x128
  let main_v40 : IVec S2x16x12x2x8x128 1 := cmpf .oeq main_v37 main_v39
  let main_c_3 : IVec S_ 1 := constantI S_ 1 1#1
  let main_v41 : IVec S_ 1 := (fun x v => Host.reduce IntOp.andi x v reducesTo_S2x16x12x2x8x128_S_d0_1_2_3_4_5 h_S_) main_v40 main_c_3
  let main_c_4 : IVec S_ 32 := constantI S_ 32 16#32
  fn_part2 (F := F) main_arg2 main_arg4 main_v33 main_v34 main_v41 main_c_4

def fn {F : FTy → Type} [FloatOps F] (main_arg0 : IVec S10000000x24 8) (main_arg1 : IVec S24x256x96 8) (main_arg2 : FVec F S24x256 .f32) (main_arg3 : IVec S12288 32) (main_arg4 : IVec S257 32) (main_arg5 : IVec S786432 32) : IVec S_ 1 :=
  let main_c : IVec S_ 32 := constantI S_ 32 0#32
  let main_v0 : IVec S12288 32 := broadcastInDim S12288 ![] bcast_S_S12288 main_c
  let main_v1 : IVec S12288 1 := cmpi .slt main_arg3 main_v0
  let main_c_0 : IVec S_ 32 := constantI S_ 32 10000000#32
  let main_v2 : IVec S12288 32 := broadcastInDim S12288 ![] bcast_S_S12288 main_c_0
  let main_v3 : IVec S12288 32 := addi main_arg3 main_v2
  let main_v4 : IVec S12288 32 := select main_v1 main_v3 main_arg3
  let main_v5 : IVec S12288x1 32 := broadcastInDim S12288x1 ![0] bcast_S12288_S12288x1_0 main_v4
  let main_v6 : IVec S12288x24 8 := (fun x i => Host.gather gather_S10000000x24_S12288x1_S12288x24_1_0_n_n_0_1_124 x i) main_arg0 main_v5
  let main_v7 : IVec S12288x24 32 := (extui 32 · natLt_8_32) main_v6
  let main_v8 : IVec S12288 32 := iotaInDim S12288 32 0
  let main_v9 : IVec S256 32 := (extractStridedSlice S256 ![1] · slices_S257_S256_1) main_arg4
  let main_v10 : IVec S1x256 32 := broadcastInDim S1x256 ![1] bcast_S256_S1x256_1 main_v9
  let main_v11 : IVec S12288x1 32 := broadcastInDim S12288x1 ![0] bcast_S12288_S12288x1_0 main_v8
  let main_v12 : IVec S12288x256 32 := broadcastInDim S12288x256 ![0, 1] bcast_S1x256_S12288x256_0_1 main_v10
  let main_v13 : IVec S12288x256 32 := broadcastInDim S12288x256 ![0, 1] bcast_S12288x1_S12288x256_0_1 main_v11
  let main_v14 : IVec S12288x256 1 := cmpi .sle main_v12 main_v13
  let main_v15 : IVec S12288x256 32 := (extui 32 · natLt_1_32) main_v14
  let main_c_1 : IVec S_ 32 := constantI S_ 32 0#32
  let main_v16 : IVec S12288 32 := (fun x v => Host.reduce IntOp.addi x v reducesTo_S12288x256_S12288_d1 h_S_) main_v15 main_c_1
  let main_v17 : IVec S12288x24x1 32 := broadcastInDim S12288x24x1 ![0, 1] bcast_S12288x24_S12288x24x1_0_1 main_v7
  let main_v18 : IVec S256 32 := iotaInDim S256 32 0
  let main_v19 : IVec S1x1x256 32 := broadcastInDim S1x1x256 ![2] bcast_S256_S1x1x256_2 main_v18
  let main_v20 : IVec S12288x24x256 32 := broadcastInDim S12288x24x256 ![0, 1, 2] bcast_S12288x24x1_S12288x24x256_0_1_2 main_v17
  fn_part1 (F := F) main_arg2 main_arg4 main_arg5 main_v16 main_v19 main_v20
-- ==== Kernel.lean ====
abbrev S10000000x24 : Shape := ⟨2, ![10000000, 24]⟩
abbrev S24x256x96 : Shape := ⟨3, ![24, 256, 96]⟩
abbrev S24x256 : Shape := ⟨2, ![24, 256]⟩
abbrev S12288 : Shape := ⟨1, ![12288]⟩
abbrev S257 : Shape := ⟨1, ![257]⟩
abbrev S786432 : Shape := ⟨1, ![786432]⟩
abbrev S2x16x12x2x8x128 : Shape := ⟨6, ![2, 16, 12, 2, 8, 128]⟩
abbrev S256 : Shape := ⟨1, ![256]⟩
abbrev S_ : Shape := ⟨0, ![]⟩
abbrev S1 : Shape := ⟨1, ![1]⟩
abbrev S24x96x256 : Shape := ⟨3, ![24, 96, 256]⟩
abbrev S256x2304 : Shape := ⟨2, ![256, 2304]⟩
abbrev S1x16x4x2x8x128 : Shape := ⟨6, ![1, 16, 4, 2, 8, 128]⟩
abbrev S4x96x256 : Shape := ⟨3, ![4, 96, 256]⟩
abbrev S256x384 : Shape := ⟨2, ![256, 384]⟩
abbrev S384x256 : Shape := ⟨2, ![384, 256]⟩
abbrev S1x16x1x1x8x128 : Shape := ⟨6, ![1, 16, 1, 1, 8, 128]⟩
abbrev S16x8x128 : Shape := ⟨3, ![16, 8, 128]⟩
abbrev S16x16x128 : Shape := ⟨3, ![16, 16, 128]⟩
abbrev S256x128 : Shape := ⟨2, ![256, 128]⟩
abbrev S256x256 : Shape := ⟨2, ![256, 256]⟩
abbrev S1x96x256 : Shape := ⟨3, ![1, 96, 256]⟩
abbrev S96x256 : Shape := ⟨2, ![96, 256]⟩
abbrev S1x256 : Shape := ⟨2, ![1, 256]⟩
abbrev S288x256 : Shape := ⟨2, ![288, 256]⟩

abbrev nBuf : Space → Nat
  | .hbm => 15
  | .vmem => 8
  | .smem => 1
  | _ => 0

abbrev bufTy : (tb : Table) → Fin (tcTables nBuf tb) → BufTy
  | .hbm, ⟨0, _⟩ => ⟨S10000000x24, .i8⟩
  | .hbm, ⟨1, _⟩ => ⟨S24x256x96, .i8⟩
  | .hbm, ⟨2, _⟩ => ⟨S24x256, .f32⟩
  | .hbm, ⟨3, _⟩ => ⟨S12288, .i32⟩
  | .hbm, ⟨4, _⟩ => ⟨S257, .i32⟩
  | .hbm, ⟨5, _⟩ => ⟨S786432, .i32⟩
  | .hbm, ⟨6, _⟩ => ⟨S2x16x12x2x8x128, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S_, .i32⟩
  | .hbm, ⟨12, _⟩ => ⟨S1, .i32⟩
  | .hbm, ⟨13, _⟩ => ⟨S24x96x256, .i8⟩
  | .hbm, ⟨14, _⟩ => ⟨S256x2304, .bf16⟩
  | .local _ .vmem, ⟨0, _⟩ => ⟨S1x16x4x2x8x128, .i32⟩
  | .local _ .vmem, ⟨1, _⟩ => ⟨S1x16x4x2x8x128, .i32⟩
  | .local _ .vmem, ⟨2, _⟩ => ⟨S4x96x256, .i8⟩
  | .local _ .vmem, ⟨3, _⟩ => ⟨S4x96x256, .i8⟩
  | .local _ .vmem, ⟨4, _⟩ => ⟨S24x256, .f32⟩
  | .local _ .vmem, ⟨5, _⟩ => ⟨S256x384, .bf16⟩
  | .local _ .vmem, ⟨6, _⟩ => ⟨S256x384, .bf16⟩
  | .local _ .vmem, ⟨7, _⟩ => ⟨S384x256, .f32⟩
  | .local _ .smem, ⟨0, _⟩ => ⟨S1, .i32⟩
  | _, _ => ⟨S10000000x24, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![6], ![false]⟩

def k0_off1 (i : grid0.Coords) (c0_i32 : BitVec 32) : Fin 2 → Nat :=
  let arg0 : BitVec 32 := BitVec.ofNat 32 (i 0).val
  let c4_i32 : BitVec 32 := 4#32
  let v27 : BitVec 32 := Scalar.muli arg0 c4_i32
  let v28 : BitVec 32 := Scalar.addi v27 c0_i32
  let v29 : Index := Scalar.indexCast v28
  let c0_17 : Index := 0#32
  ![v29.toNat, 0]
def k0_off2 (i : grid0.Coords) (c0_i32_122 : BitVec 32) : Fin 2 → Nat :=
  let arg0 : BitVec 32 := BitVec.ofNat 32 (i 0).val
  let c4_i32_121 : BitVec 32 := 4#32
  let v236 : BitVec 32 := Scalar.muli arg0 c4_i32_121
  let v237 : BitVec 32 := Scalar.addi v236 c0_i32_122
  let v238 : Index := Scalar.indexCast v237
  let c0_123 : Index := 0#32
  ![v238.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 6 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  let c0_i32_14 : BitVec 32 := 0#32
  ![v16.toNat, c0_i32_10.toNat, v26.toNat, c0_i32_11.toNat, c0_i32_12.toNat, c0_i32_13.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x4x2x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x96x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S24x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S10000000x24 : Shape := ⟨2, ![10000000, 24]⟩
abbrev S24x256x96 : Shape := ⟨3, ![24, 256, 96]⟩
abbrev S24x256 : Shape := ⟨2, ![24, 256]⟩
abbrev S12288 : Shape := ⟨1, ![12288]⟩
abbrev S257 : Shape := ⟨1, ![257]⟩
abbrev S786432 : Shape := ⟨1, ![786432]⟩
abbrev S_ : Shape := ⟨0, ![]⟩
abbrev S12288x1 : Shape := ⟨2, ![12288, 1]⟩
abbrev S12288x24 : Shape := ⟨2, ![12288, 24]⟩
abbrev S24 : Shape := ⟨1, ![24]⟩
abbrev S1x24 : Shape := ⟨2, ![1, 24]⟩
abbrev S12288x24x1 : Shape := ⟨3, ![12288, 24, 1]⟩
abbrev S12288x24x2 : Shape := ⟨3, ![12288, 24, 2]⟩
abbrev S12288x24x96 : Shape := ⟨3, ![12288, 24, 96]⟩
abbrev S12288x2304 : Shape := ⟨2, ![12288, 2304]⟩
abbrev S256 : Shape := ⟨1, ![256]⟩
abbrev S1x12288 : Shape := ⟨2, ![1, 12288]⟩
abbrev S256x1 : Shape := ⟨2, ![256, 1]⟩
abbrev S256x12288 : Shape := ⟨2, ![256, 12288]⟩
abbrev S256x2304 : Shape := ⟨2, ![256, 2304]⟩

abbrev nBuf : Space → Nat
  | .hbm => 77
  | .vmem => 0
  | .smem => 0
  | _ => 0

abbrev bufTy : (tb : Table) → Fin (tcTables nBuf tb) → BufTy
  | .hbm, ⟨0, _⟩ => ⟨S10000000x24, .i8⟩
  | .hbm, ⟨1, _⟩ => ⟨S24x256x96, .i8⟩
  | .hbm, ⟨2, _⟩ => ⟨S24x256, .f32⟩
  | .hbm, ⟨3, _⟩ => ⟨S12288, .i32⟩
  | .hbm, ⟨4, _⟩ => ⟨S257, .i32⟩
  | .hbm, ⟨5, _⟩ => ⟨S786432, .i32⟩
  | .hbm, ⟨6, _⟩ => ⟨S_, .i32⟩
  | .hbm, ⟨7, _⟩ => ⟨S12288, .i32⟩
  | .hbm, ⟨8, _⟩ => ⟨S12288, .i1⟩
  | .hbm, ⟨9, _⟩ => ⟨S_, .i32⟩
  | .hbm, ⟨10, _⟩ => ⟨S12288, .i32⟩
  | .hbm, ⟨11, _⟩ => ⟨S12288, .i32⟩
  | .hbm, ⟨12, _⟩ => ⟨S12288, .i32⟩
  | .hbm, ⟨13, _⟩ => ⟨S12288x1, .i32⟩
  | .hbm, ⟨14, _⟩ => ⟨S12288x24, .i8⟩
  | .hbm, ⟨15, _⟩ => ⟨S12288x24, .i32⟩
  | .hbm, ⟨16, _⟩ => ⟨S24, .i32⟩
  | .hbm, ⟨17, _⟩ => ⟨S1x24, .i32⟩
  | .hbm, ⟨18, _⟩ => ⟨S_, .i32⟩
  | .hbm, ⟨19, _⟩ => ⟨S1x24, .i32⟩
  | .hbm, ⟨20, _⟩ => ⟨S1x24, .i1⟩
  | .hbm, ⟨21, _⟩ => ⟨S_, .i32⟩
  | .hbm, ⟨22, _⟩ => ⟨S1x24, .i32⟩
  | .hbm, ⟨23, _⟩ => ⟨S1x24, .i32⟩
  | .hbm, ⟨24, _⟩ => ⟨S1x24, .i32⟩
  | .hbm, ⟨25, _⟩ => ⟨S_, .i32⟩
  | .hbm, ⟨26, _⟩ => ⟨S12288x24, .i32⟩
  | .hbm, ⟨27, _⟩ => ⟨S12288x24, .i1⟩
  | .hbm, ⟨28, _⟩ => ⟨S_, .i32⟩
  | .hbm, ⟨29, _⟩ => ⟨S12288x24, .i32⟩
  | .hbm, ⟨30, _⟩ => ⟨S12288x24, .i32⟩
  | .hbm, ⟨31, _⟩ => ⟨S12288x24, .i32⟩
  | .hbm, ⟨32, _⟩ => ⟨S12288x24, .i32⟩
  | .hbm, ⟨33, _⟩ => ⟨S12288x24x1, .i32⟩
  | .hbm, ⟨34, _⟩ => ⟨S12288x24x1, .i32⟩
  | .hbm, ⟨35, _⟩ => ⟨S12288x24x2, .i32⟩
  | .hbm, ⟨36, _⟩ => ⟨S12288x24x96, .i8⟩
  | .hbm, ⟨37, _⟩ => ⟨S_, .i32⟩
  | .hbm, ⟨38, _⟩ => ⟨S1x24, .i32⟩
  | .hbm, ⟨39, _⟩ => ⟨S1x24, .i1⟩
  | .hbm, ⟨40, _⟩ => ⟨S_, .i32⟩
  | .hbm, ⟨41, _⟩ => ⟨S1x24, .i32⟩
  | .hbm, ⟨42, _⟩ => ⟨S1x24, .i32⟩
  | .hbm, ⟨43, _⟩ => ⟨S1x24, .i32⟩
  | .hbm, ⟨44, _⟩ => ⟨S_, .i32⟩
  | .hbm, ⟨45, _⟩ => ⟨S12288x24, .i32⟩
  | .hbm, ⟨46, _⟩ => ⟨S12288x24, .i1⟩
  | .hbm, ⟨47, _⟩ => ⟨S_, .i32⟩
  | .hbm, ⟨48, _⟩ => ⟨S12288x24, .i32⟩
  | .hbm, ⟨49, _⟩ => ⟨S12288x24, .i32⟩
  | .hbm, ⟨50, _⟩ => ⟨S12288x24, .i32⟩
  | .hbm, ⟨51, _⟩ => ⟨S12288x24, .i32⟩
  | .hbm, ⟨52, _⟩ => ⟨S12288x24x1, .i32⟩
  | .hbm, ⟨53, _⟩ => ⟨S12288x24x1, .i32⟩
  | .hbm, ⟨54, _⟩ => ⟨S12288x24x2, .i32⟩
  | .hbm, ⟨55, _⟩ => ⟨S12288x24, .f32⟩
  | .hbm, ⟨56, _⟩ => ⟨S12288x24x96, .i32⟩
  | .hbm, ⟨57, _⟩ => ⟨S12288x24x96, .f32⟩
  | .hbm, ⟨58, _⟩ => ⟨S12288x24x1, .f32⟩
  | .hbm, ⟨59, _⟩ => ⟨S12288x24x96, .f32⟩
  | .hbm, ⟨60, _⟩ => ⟨S12288x24x96, .f32⟩
  | .hbm, ⟨61, _⟩ => ⟨S12288x2304, .f32⟩
  | .hbm, ⟨62, _⟩ => ⟨S256, .i32⟩
  | .hbm, ⟨63, _⟩ => ⟨S12288, .i32⟩
  | .hbm, ⟨64, _⟩ => ⟨S1x12288, .i32⟩
  | .hbm, ⟨65, _⟩ => ⟨S256x1, .i32⟩
  | .hbm, ⟨66, _⟩ => ⟨S256x12288, .i32⟩
  | .hbm, ⟨67, _⟩ => ⟨S256x12288, .i32⟩
  | .hbm, ⟨68, _⟩ => ⟨S256x12288, .i1⟩
  | .hbm, ⟨69, _⟩ => ⟨S256x12288, .i32⟩
  | .hbm, ⟨70, _⟩ => ⟨S_, .i32⟩
  | .hbm, ⟨71, _⟩ => ⟨S12288, .i32⟩
  | .hbm, ⟨72, _⟩ => ⟨S_, .f32⟩
  | .hbm, ⟨73, _⟩ => ⟨S256x2304, .f32⟩
  | .hbm, ⟨74, _⟩ => ⟨S12288x1, .i32⟩
  | .hbm, ⟨75, _⟩ => ⟨S256x2304, .f32⟩
  | .hbm, ⟨76, _⟩ => ⟨S256x2304, .bf16⟩
  | _, _ => ⟨S10000000x24, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_call0_v0 : Ref sig .tc := ⟨.hbm, 64, rfl⟩
abbrev main_call0_call0_v1 : Ref sig .tc := ⟨.hbm, 65, rfl⟩
abbrev main_call0_call0_v2 : Ref sig .tc := ⟨.hbm, 66, rfl⟩
abbrev main_call0_call0_v3 : Ref sig .tc := ⟨.hbm, 67, rfl⟩
abbrev main_call0_call0_v4 : Ref sig .tc := ⟨.hbm, 68, rfl⟩
abbrev main_call0_call0_v5 : Ref sig .tc := ⟨.hbm, 69, rfl⟩
abbrev main_call0_call0_c : Ref sig .tc := ⟨.hbm, 70, rfl⟩
abbrev main_v48 : Ref sig .tc := ⟨.hbm, 71, rfl⟩
abbrev main_cst : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

section
variable {F : FTy → Type} [FloatOps F]

/-- The counts block of one subspace, one byte of each count: the masked low and high halves of the packed words. -/
def CNTS (mask : BitVec 32) (a b : Vec F S1x16x1x1x8x128 .i32) : FVec F S256x256 .bf16 :=
  truncf .bf16 (concatenate S256x256 1
    [⟨S256x128, sitofp .f32 (shapeCast S256x128 (concatenate S16x16x128 1
      [⟨S16x8x128, andi (shapeCast S16x8x128 a shapeCasts_S1x16x1x1x8x128_S16x8x128) (broadcast S16x8x128 mask)⟩,
       ⟨S16x8x128, andi (shrsi (shapeCast S16x8x128 a shapeCasts_S1x16x1x1x8x128_S16x8x128) (broadcast S16x8x128 16#32)) (broadcast S16x8x128 mask)⟩]
      concatenates_S16x8x128_S16x8x128_S16x16x128_d1) shapeCasts_S16x16x128_S256x128)⟩,
     ⟨S256x128, sitofp .f32 (shapeCast S256x128 (concatenate S16x16x128 1
      [⟨S16x8x128, andi (shapeCast S16x8x128 b shapeCasts_S1x16x1x1x8x128_S16x8x128) (broadcast S16x8x128 mask)⟩,
       ⟨S16x8x128, andi (shrsi (shapeCast S16x8x128 b shapeCasts_S1x16x1x1x8x128_S16x8x128) (broadcast S16x8x128 16#32)) (broadcast S16x8x128 mask)⟩]
      concatenates_S16x8x128_S16x8x128_S16x16x128_d1) shapeCasts_S16x16x128_S256x128)⟩]
    concatenates_S256x128_S256x128_S256x256_d1) bitsLt_bf16_f32

/-- The scaled codewords of one subspace. -/
def WTS (b : Vec F S1x96x256 .i8) (s : Vec F S1x256 .f32) : FVec F S96x256 .f32 :=
  mulf (sitofp .f32 (shapeCast S96x256 b shapeCasts_S1x96x256_S96x256)) (broadcastTo S96x256 s broadcasts_S1x256_S96x256)

/-- The rest of a value after its bf16 part. -/
def REST (w : FVec F S96x256 .f32) : FVec F S96x256 .f32 := subf w (extf .f32 (truncf .bf16 w bitsLt_bf16_f32) bitsLt_bf16_f32)

/-- The matrix product of the three bf16 parts of the weights with the counts. -/
def MM (n : FVec F S256x256 .bf16) (w : FVec F S96x256 .f32) : FVec F S288x256 .f32 :=
  matmul dot_S288x256_S256x256_S288x256_1_1_0_0_n_n none
    (concatenate S288x256 0 [⟨S96x256, truncf .bf16 w bitsLt_bf16_f32⟩, ⟨S96x256, truncf .bf16 (REST w) bitsLt_bf16_f32⟩,
      ⟨S96x256, truncf .bf16 (REST (REST w)) bitsLt_bf16_f32⟩] concatenates_S96x256_S96x256_S96x256_S288x256_d0)
    n (constant S288x256 .f32 0x00000000#32)

/-- The three parts' products added: one subspace's share of the pooled block. -/
def PART (n : FVec F S256x256 .bf16) (w : FVec F S96x256 .f32) : FVec F S96x256 .f32 :=
  addf (extractStridedSlice S96x256 ![0, 0] (MM n w) slices_S288x256_o0_0_S96x256)
    (addf (extractStridedSlice S96x256 ![96, 0] (MM n w) slices_S288x256_o96_0_S96x256)
      (extractStridedSlice S96x256 ![192, 0] (MM n w) slices_S288x256_o192_0_S96x256))

variable (a b : Vec F S1x16x1x1x8x128 .i32) (k : Vec F S1x96x256 .i8) (s : Vec F S1x256 .f32) (o : Vec F S96x256 .f32)

theorem lo0 : k0_pay23 (k0_pay19 a b) (k0_pay20 k s) (k0_pay21 k s) (k0_pay22 k s) = shapeCast S96x256 (PART (CNTS 255#32 a b) (WTS k s)) shapeCasts_S96x256_S96x256 := rfl
theorem lo1 : k0_pay25 (k0_pay24 a b) k s = shapeCast S96x256 (PART (CNTS 255#32 a b) (WTS k s)) shapeCasts_S96x256_S96x256 := rfl
theorem lo2 : k0_pay27 (k0_pay26 a) b k s = shapeCast S96x256 (PART (CNTS 255#32 a b) (WTS k s)) shapeCasts_S96x256_S96x256 := rfl
theorem lo3 : k0_pay1 (k0_pay28 a b) (k0_pay29 k s) = shapeCast S96x256 (PART (CNTS 255#32 a b) (WTS k s)) shapeCasts_S96x256_S96x256 := rfl
theorem hi0 : k0_pay6 o (k0_pay4 a b) (k0_pay5 k s) = shapeCast S96x256 (addf o (PART (CNTS 65280#32 a b) (WTS k s))) shapeCasts_S96x256_S96x256 := rfl
theorem hi1 : k0_pay11 o (k0_pay7 a) (k0_pay9 b) (k0_pay10 b) 65280#32 k s = shapeCast S96x256 (addf o (PART (CNTS 65280#32 a b) (WTS k s))) shapeCasts_S96x256_S96x256 := rfl
theorem hi2 : k0_pay16 (k0_pay15 o (k0_pay12 a) (k0_pay13 a) k0_pay14 b k s) = shapeCast S96x256 (addf o (PART (CNTS 65280#32 a b) (WTS k s))) shapeCasts_S96x256_S96x256 := rfl
theorem hi3 : k0_pay2 o (k0_pay17 a b) (k0_pay18 k) s = shapeCast S96x256 (addf o (PART (CNTS 65280#32 a b) (WTS k s))) shapeCasts_S96x256_S96x256 := rfl
end

/-- One byte (`mask`) of the count which the packed word `w` holds for bag `l`: the low half for the first eight bags
    of a tile, the high half for the other eight, as an extended real. -/
def CN (mask w : BitVec 32) (l : Fin 256) : EReal :=
  FloatOps.sitofp (F := Ideal) .f32 (if l.val % 16 < 8 then IntOp.andi w mask else IntOp.andi (IntOp.shrsi .vector w 16#32) mask)

/-- The counts block at a bag and a code. -/
theorem cnts_apply (mask : BitVec 32) (a b : Vec Ideal S1x16x1x1x8x128 .i32) (l k : Fin 256) :
    CNTS mask a b (ix2 l k) = CN mask (if k.val < 128
      then a (ix6 0 ⟨l.val / 16, by omega⟩ 0 0 ⟨l.val % 16 % 8, by omega⟩ ⟨k.val % 128, by omega⟩)
      else b (ix6 0 ⟨l.val / 16, by omega⟩ 0 0 ⟨l.val % 16 % 8, by omega⟩ ⟨k.val % 128, by omega⟩)) l := by
  pointwise [CNTS]
  unfold CN
  by_cases hk : k.val < 128 <;> by_cases hl : l.val % 16 < 8 <;> simp only [hk, hl, dif_pos, dif_neg, if_true, if_false, not_false_eq_true]
  · congr 5 <;> omega
  · congr 6 <;> omega
  · congr 5 <;> omega
  · congr 6 <;> omega

/-- A scaled codeword at its coordinate and code. -/
theorem wts_apply (b : Vec Ideal S1x96x256 .i8) (s : Vec Ideal S1x256 .f32) (d : Fin 96) (k : Fin 256) :
    WTS b s (ix2 d k) = FloatOps.sitofp (F := Ideal) .f32 (b (ix3 0 d k)) * s (ix2 0 k) := by
  pointwise [WTS]

/-- For finite weights the second and third parts vanish over the extended reals: the three-part product is the
    product of the weights with the counts. -/
theorem part_apply (n : FVec Ideal S256x256 .bf16) (w : FVec Ideal S96x256 .f32) (hw : ∀ d k, w (ix2 d k) ≠ ⊤ ∧ w (ix2 d k) ≠ ⊥)
    (d : Fin 96) (l : Fin 256) :
    PART n w (ix2 d l) = ∑ k : Fin 256, w (ix2 d k) * n (ix2 l k) := by
  have hs : ∀ d k, w (ix2 d k) - w (ix2 d k) = (0 : EReal) := fun d k => EReal.sub_self (hw d k).1 (hw d k).2
  pointwise [PART, MM, REST]
  have h1 : ¬(192 + d.val < 96) := by omega
  have h2 : ¬(192 + d.val - 96 < 96) := by omega
  simp only [h1, h2, dif_neg, not_false_eq_true, hs, sub_zero, zero_mul, Finset.sum_const_zero, add_zero]

/-- The packed word of subspace `g` of a block, for bag `l` and code `k`. -/
def WD (x1 : Vec Ideal S1x16x4x2x8x128 .i32) (g : Fin 4) (l k : Fin 256) : BitVec 32 :=
  x1 (ix6 0 ⟨l.val / 16, by omega⟩ g ⟨k.val / 128, by omega⟩ ⟨l.val % 16 % 8, by omega⟩ ⟨k.val % 128, by omega⟩)

/-- The subspace `g` of block `i` as one of the 24. -/
def RW (i : grid0.Coords) (g : Fin 4) : Fin 24 := ⟨4 * (i 0).val + g.val, by have h : (i 0).val < 6 := (i 0).isLt; omega⟩

/-- The scaled codeword of subspace `g` of block `i`. -/
def WT (i : grid0.Coords) (x2 : Vec Ideal S4x96x256 .i8) (x3 : Vec Ideal S24x256 .f32) (g : Fin 4) (d : Fin 96) (k : Fin 256) : EReal :=
  FloatOps.sitofp (F := Ideal) .f32 (x2 (ix3 g d k)) * x3 (ix2 (RW i g) k)

/-- The sum over the codes of the scaled codewords times one byte of their counts. -/
def SM (mask : BitVec 32) (i : grid0.Coords) (x1 : Vec Ideal S1x16x4x2x8x128 .i32) (x2 : Vec Ideal S4x96x256 .i8) (x3 : Vec Ideal S24x256 .f32)
    (g : Fin 4) (d : Fin 96) (l : Fin 256) : EReal :=
  ∑ k : Fin 256, WT i x2 x3 g d k * CN mask (WD x1 g l k) l

/-- One subspace's share, from the loaded pieces of the four operands. -/
theorem piece (mask : BitVec 32) (i : grid0.Coords) (x1 : Vec Ideal S1x16x4x2x8x128 .i32) (x2 : Vec Ideal S4x96x256 .i8) (x3 : Vec Ideal S24x256 .f32)
    (hw : ∀ g d k, WT i x2 x3 g d k ≠ ⊤ ∧ WT i x2 x3 g d k ≠ ⊥) (g : Fin 4)
    (a b : Vec Ideal S1x16x1x1x8x128 .i32) (kk : Vec Ideal S1x96x256 .i8) (s : Vec Ideal S1x256 .f32)
    (ha : ∀ p q r, a (ix6 0 p 0 0 q r) = x1 (ix6 0 p g 0 q r)) (hb : ∀ p q r, b (ix6 0 p 0 0 q r) = x1 (ix6 0 p g 1 q r))
    (hk : ∀ d k, kk (ix3 0 d k) = x2 (ix3 g d k))
    (hs : ∀ k, s (ix2 0 k) = x3 (ix2 (RW i g) k))
    (d : Fin 96) (l : Fin 256) :
    PART (CNTS mask a b) (WTS kk s) (ix2 d l) = SM mask i x1 x2 x3 g d l := by
  have e : ∀ d k, WTS kk s (ix2 d k) = WT i x2 x3 g d k := fun d k => by rw [wts_apply, hk, hs]; rfl
  rw [part_apply _ _ (fun d k => by rw [e]; exact hw g d k)]
  refine Finset.sum_congr rfl fun k _ => ?_
  rw [e, cnts_apply, ha, hb]
  congr 2
  unfold WD
  split
  · rw [show (⟨k.val / 128, by omega⟩ : Fin 2) = 0 from Fin.ext (by show k.val / 128 = 0; omega)]
  · rw [show (⟨k.val / 128, by omega⟩ : Fin 2) = 1 from Fin.ext (by show k.val / 128 = 1; omega)]

end Cert.KernelIdeal.Value

end
-- ==== Proof.OutBlock.lean ====
module

public import proofs.«01_k».proof.Proof.Block
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-- The pooled block before its transposition: row `g * 96 + d` of the scratch holds `f g d`. -/
def RES (f : Fin 4 → Fin 96 → Fin 256 → EReal) : Vec Ideal S384x256 .f32 := fun z =>
  f ⟨(z 0).val / 96, by have h : (z 0).val < 384 := (z 0).isLt; omega⟩ ⟨(z 0).val % 96, by omega⟩ (z 1)

theorem RES_at (f : Fin 4 → Fin 96 → Fin 256 → EReal) (z : S384x256.Idx) (g : Fin 4) (d : Fin 96) (l : Fin 256)
    (h0 : (z 0).val = g.val * 96 + d.val) (h1 : (z 1).val = l.val) : RES f z = f g d l := by
  have e0 : (⟨(z 0).val / 96, by have h : (z 0).val < 384 := (z 0).isLt; omega⟩ : Fin 4) = g := Fin.ext (by show (z 0).val / 96 = g.val; omega)
  have e1 : (⟨(z 0).val % 96, by omega⟩ : Fin 96) = d := Fin.ext (by show (z 0).val % 96 = d.val; omega)
  have e2 : (z 1 : Fin 256) = l := Fin.ext h1
  show f _ _ _ = _
  rw [e0, e1, e2]

/-- Four row tiles stored last over any earlier stores leave the tiles' values. -/
theorem stack (f : Fin 4 → Fin 96 → Fin 256 → EReal) (p0 p1 p2 p3 : Vec Ideal S96x256 .f32)
    (h0 : ∀ d l, p0 (ix2 d l) = f 0 d l) (h1 : ∀ d l, p1 (ix2 d l) = f 1 d l)
    (h2 : ∀ d l, p2 (ix2 d l) = f 2 d l) (h3 : ∀ d l, p3 (ix2 d l) = f 3 d l)
    (L : List (View.Piece (Elt Ideal) S384x256 .f32)) (z : S384x256.Idx) :
    View.canon (⟨Rect.unit ![288, 0] ![96, 256] inb_S384x256_S96x256_288_0, p3⟩ :: ⟨Rect.unit ![192, 0] ![96, 256] inb_S384x256_S96x256_192_0, p2⟩
      :: ⟨Rect.unit ![96, 0] ![96, 256] inb_S384x256_S96x256_96_0, p1⟩ :: ⟨Rect.unit ![0, 0] ![96, 256] inb_S384x256_S96x256_0_0, p0⟩ :: L) z = RES f z := by
  have hz : (z 0).val < 384 := (z 0).isLt
  have hz1 : (z 1).val < 256 := (z 1).isLt
  refine View.canon_append_of_piecesOf (RES f) L [_, _, _, _] ⟨fun x => ?_, fun x => ?_, fun x => ?_, fun x => ?_, trivial⟩ z ?_
  · exact ((congrArg p3 (eq_ix2 x)).trans (h3 (x 0) (x 1))).trans (RES_at f _ 3 (x 0) (x 1) (by rw [Rect.emb_apply]; show 288 + 1 * (x 0).val = _; omega) (by rw [Rect.emb_apply]; show 0 + 1 * (x 1).val = _; omega)).symm
  · exact ((congrArg p2 (eq_ix2 x)).trans (h2 (x 0) (x 1))).trans (RES_at f _ 2 (x 0) (x 1) (by rw [Rect.emb_apply]; show 192 + 1 * (x 0).val = _; omega) (by rw [Rect.emb_apply]; show 0 + 1 * (x 1).val = _; omega)).symm
  · exact ((congrArg p1 (eq_ix2 x)).trans (h1 (x 0) (x 1))).trans (RES_at f _ 1 (x 0) (x 1) (by rw [Rect.emb_apply]; show 96 + 1 * (x 0).val = _; omega) (by rw [Rect.emb_apply]; show 0 + 1 * (x 1).val = _; omega)).symm
  · exact ((congrArg p0 (eq_ix2 x)).trans (h0 (x 0) (x 1))).trans (RES_at f _ 0 (x 0) (x 1) (by rw [Rect.emb_apply]; show 0 + 1 * (x 0).val = _; omega) (by rw [Rect.emb_apply]; show 0 + 1 * (x 1).val = _; omega)).symm
  · exact View.cover_of_tiledL (e := .f32) (Val := Elt Ideal) [⟨Rect.unit ![288, 0] ![96, 256] inb_S384x256_S96x256_288_0, p3⟩, ⟨Rect.unit ![192, 0] ![96, 256] inb_S384x256_S96x256_192_0, p2⟩,
      ⟨Rect.unit ![96, 0] ![96, 256] inb_S384x256_S96x256_96_0, p1⟩, ⟨Rect.unit ![0, 0] ![96, 256] inb_S384x256_S96x256_0_0, p0⟩] ![96, 256] (by sl_kernel_rfl) z

/-- A row of the scales, loaded at a computed offset that is row `n`. -/
theorem ld_row (x3 : Vec Ideal S24x256 .f32) (n : Fin 24) (off : Fin 2 → ℕ) (h : off = ![n.val, 0]) (inb) (k : Fin 256) :
    View.ld x3 (Rect.unit off ![1, 256] inb) (ix2 0 k) = x3 (ix2 n k) := by
  subst h
  pointwise

/-- Subspace 0 of a block, its scales row loaded at the offset of the first pass. -/
theorem part0_1 (mask : BitVec 32) (i : grid0.Coords) (x1 : Vec Ideal S1x16x4x2x8x128 .i32) (x2 : Vec Ideal S4x96x256 .i8) (x3 : Vec Ideal S24x256 .f32)
    (hw : ∀ g d k, WT i x2 x3 g d k ≠ ⊤ ∧ WT i x2 x3 g d k ≠ ⊥) (inb) (d : Fin 96) (l : Fin 256) :
    PART (CNTS mask
        (View.ld x1 (Rect.unit ![0, 0, 0, 0, 0, 0] ![1, 16, 1, 1, 8, 128] inb_S1x16x4x2x8x128_S1x16x1x1x8x128_0_0_0_0_0_0))
        (View.ld x1 (Rect.unit ![0, 0, 0, 1, 0, 0] ![1, 16, 1, 1, 8, 128] inb_S1x16x4x2x8x128_S1x16x1x1x8x128_0_0_0_1_0_0)))
      (WTS (View.ld x2 (Rect.unit ![0, 0, 0] ![1, 96, 256] inb_S4x96x256_S1x96x256_0_0_0))
        (View.ld x3 (Rect.unit (k0_off1 i 0#32) ![1, 256] inb))) (ix2 d l) = SM mask i x1 x2 x3 0 d l :=
  piece mask i x1 x2 x3 hw 0 _ _ _ _ (fun p q r => by pointwise) (fun p q r => by pointwise) (fun d k => by pointwise)
    (fun k => ld_row x3 (RW i 0) _ (k0_off1_eq i 0) inb k) d l

/-- Subspace 0 of a block, its scales row loaded at the offset of the second pass. -/
theorem part0_2 (mask : BitVec 32) (i : grid0.Coords) (x1 : Vec Ideal S1x16x4x2x8x128 .i32) (x2 : Vec Ideal S4x96x256 .i8) (x3 : Vec Ideal S24x256 .f32)
    (hw : ∀ g d k, WT i x2 x3 g d k ≠ ⊤ ∧ WT i x2 x3 g d k ≠ ⊥) (inb) (d : Fin 96) (l : Fin 256) :
    PART (CNTS mask
        (View.ld x1 (Rect.unit ![0, 0, 0, 0, 0, 0] ![1, 16, 1, 1, 8, 128] inb_S1x16x4x2x8x128_S1x16x1x1x8x128_0_0_0_0_0_0))
        (View.ld x1 (Rect.unit ![0, 0, 0, 1, 0, 0] ![1, 16, 1, 1, 8, 128] inb_S1x16x4x2x8x128_S1x16x1x1x8x128_0_0_0_1_0_0)))
      (WTS (View.ld x2 (Rect.unit ![0, 0, 0] ![1, 96, 256] inb_S4x96x256_S1x96x256_0_0_0))
        (View.ld x3 (Rect.unit (k0_off2 i 0#32) ![1, 256] inb))) (ix2 d l) = SM mask i x1 x2 x3 0 d l :=
  piece mask i x1 x2 x3 hw 0 _ _ _ _ (fun p q r => by pointwise) (fun p q r => by pointwise) (fun d k => by pointwise)
    (fun k => ld_row x3 (RW i 0) _ (k0_off2_eq i 0) inb k) d l

/-- Subspace 1 of a block, its scales row loaded at the offset of the first pass. -/
theorem part1_1 (mask : BitVec 32) (i : grid0.Coords) (x1 : Vec Ideal S1x16x4x2x8x128 .i32) (x2 : Vec Ideal S4x96x256 .i8) (x3 : Vec Ideal S24x256 .f32)
    (hw : ∀ g d k, WT i x2 x3 g d k ≠ ⊤ ∧ WT i x2 x3 g d k ≠ ⊥) (inb) (d : Fin 96) (l : Fin 256) :
    PART (CNTS mask
        (View.ld x1 (Rect.unit ![0, 0, 1, 0, 0, 0] ![1, 16, 1, 1, 8, 128] inb_S1x16x4x2x8x128_S1x16x1x1x8x128_0_0_1_0_0_0))
        (View.ld x1 (Rect.unit ![0, 0, 1, 1, 0, 0] ![1, 16, 1, 1, 8, 128] inb_S1x16x4x2x8x128_S1x16x1x1x8x128_0_0_1_1_0_0)))
      (WTS (View.ld x2 (Rect.unit ![1, 0, 0] ![1, 96, 256] inb_S4x96x256_S1x96x256_1_0_0))
        (View.ld x3 (Rect.unit (k0_off1 i 1#32) ![1, 256] inb))) (ix2 d l) = SM mask i x1 x2 x3 1 d l :=
  piece mask i x1 x2 x3 hw 1 _ _ _ _ (fun p q r => by pointwise) (fun p q r => by pointwise) (fun d k => by pointwise)
    (fun k => ld_row x3 (RW i 1) _ (k0_off1_eq i 1) inb k) d l

/-- Subspace 1 of a block, its scales row loaded at the offset of the second pass. -/
theorem part1_2 (mask : BitVec 32) (i : grid0.Coords) (x1 : Vec Ideal S1x16x4x2x8x128 .i32) (x2 : Vec Ideal S4x96x256 .i8) (x3 : Vec Ideal S24x256 .f32)
    (hw : ∀ g d k, WT i x2 x3 g d k ≠ ⊤ ∧ WT i x2 x3 g d k ≠ ⊥) (inb) (d : Fin 96) (l : Fin 256) :
    PART (CNTS mask
        (View.ld x1 (Rect.unit ![0, 0, 1, 0, 0, 0] ![1, 16, 1, 1, 8, 128] inb_S1x16x4x2x8x128_S1x16x1x1x8x128_0_0_1_0_0_0))
        (View.ld x1 (Rect.unit ![0, 0, 1, 1, 0, 0] ![1, 16, 1, 1, 8, 128] inb_S1x16x4x2x8x128_S1x16x1x1x8x128_0_0_1_1_0_0)))
      (WTS (View.ld x2 (Rect.unit ![1, 0, 0] ![1, 96, 256] inb_S4x96x256_S1x96x256_1_0_0))
        (View.ld x3 (Rect.unit (k0_off2 i 1#32) ![1, 256] inb))) (ix2 d l) = SM mask i x1 x2 x3 1 d l :=
  piece mask i x1 x2 x3 hw 1 _ _ _ _ (fun p q r => by pointwise) (fun p q r => by pointwise) (fun d k => by pointwise)
    (fun k => ld_row x3 (RW i 1) _ (k0_off2_eq i 1) inb k) d l

/-- Subspace 2 of a block, its scales row loaded at the offset of the first pass. -/
theorem part2_1 (mask : BitVec 32) (i : grid0.Coords) (x1 : Vec Ideal S1x16x4x2x8x128 .i32) (x2 : Vec Ideal S4x96x256 .i8) (x3 : Vec Ideal S24x256 .f32)
    (hw : ∀ g d k, WT i x2 x3 g d k ≠ ⊤ ∧ WT i x2 x3 g d k ≠ ⊥) (inb) (d : Fin 96) (l : Fin 256) :
    PART (CNTS mask
        (View.ld x1 (Rect.unit ![0, 0, 2, 0, 0, 0] ![1, 16, 1, 1, 8, 128] inb_S1x16x4x2x8x128_S1x16x1x1x8x128_0_0_2_0_0_0))
        (View.ld x1 (Rect.unit ![0, 0, 2, 1, 0, 0] ![1, 16, 1, 1, 8, 128] inb_S1x16x4x2x8x128_S1x16x1x1x8x128_0_0_2_1_0_0)))
      (WTS (View.ld x2 (Rect.unit ![2, 0, 0] ![1, 96, 256] inb_S4x96x256_S1x96x256_2_0_0))
        (View.ld x3 (Rect.unit (k0_off1 i 2#32) ![1, 256] inb))) (ix2 d l) = SM mask i x1 x2 x3 2 d l :=
  piece mask i x1 x2 x3 hw 2 _ _ _ _ (fun p q r => by pointwise) (fun p q r => by pointwise) (fun d k => by pointwise)
    (fun k => ld_row x3 (RW i 2) _ (k0_off1_eq i 2) inb k) d l

/-- Subspace 2 of a block, its scales row loaded at the offset of the second pass. -/
theorem part2_2 (mask : BitVec 32) (i : grid0.Coords) (x1 : Vec Ideal S1x16x4x2x8x128 .i32) (x2 : Vec Ideal S4x96x256 .i8) (x3 : Vec Ideal S24x256 .f32)
    (hw : ∀ g d k, WT i x2 x3 g d k ≠ ⊤ ∧ WT i x2 x3 g d k ≠ ⊥) (inb) (d : Fin 96) (l : Fin 256) :
    PART (CNTS mask
        (View.ld x1 (Rect.unit ![0, 0, 2, 0, 0, 0] ![1, 16, 1, 1, 8, 128] inb_S1x16x4x2x8x128_S1x16x1x1x8x128_0_0_2_0_0_0))
        (View.ld x1 (Rect.unit ![0, 0, 2, 1, 0, 0] ![1, 16, 1, 1, 8, 128] inb_S1x16x4x2x8x128_S1x16x1x1x8x128_0_0_2_1_0_0)))
      (WTS (View.ld x2 (Rect.unit ![2, 0, 0] ![1, 96, 256] inb_S4x96x256_S1x96x256_2_0_0))
        (View.ld x3 (Rect.unit (k0_off2 i 2#32) ![1, 256] inb))) (ix2 d l) = SM mask i x1 x2 x3 2 d l :=
  piece mask i x1 x2 x3 hw 2 _ _ _ _ (fun p q r => by pointwise) (fun p q r => by pointwise) (fun d k => by pointwise)
    (fun k => ld_row x3 (RW i 2) _ (k0_off2_eq i 2) inb k) d l

/-- Subspace 3 of a block, its scales row loaded at the offset of the first pass. -/
theorem part3_1 (mask : BitVec 32) (i : grid0.Coords) (x1 : Vec Ideal S1x16x4x2x8x128 .i32) (x2 : Vec Ideal S4x96x256 .i8) (x3 : Vec Ideal S24x256 .f32)
    (hw : ∀ g d k, WT i x2 x3 g d k ≠ ⊤ ∧ WT i x2 x3 g d k ≠ ⊥) (inb) (d : Fin 96) (l : Fin 256) :
    PART (CNTS mask
        (View.ld x1 (Rect.unit ![0, 0, 3, 0, 0, 0] ![1, 16, 1, 1, 8, 128] inb_S1x16x4x2x8x128_S1x16x1x1x8x128_0_0_3_0_0_0))
        (View.ld x1 (Rect.unit ![0, 0, 3, 1, 0, 0] ![1, 16, 1, 1, 8, 128] inb_S1x16x4x2x8x128_S1x16x1x1x8x128_0_0_3_1_0_0)))
      (WTS (View.ld x2 (Rect.unit ![3, 0, 0] ![1, 96, 256] inb_S4x96x256_S1x96x256_3_0_0))
        (View.ld x3 (Rect.unit (k0_off1 i 3#32) ![1, 256] inb))) (ix2 d l) = SM mask i x1 x2 x3 3 d l :=
  piece mask i x1 x2 x3 hw 3 _ _ _ _ (fun p q r => by pointwise) (fun p q r => by pointwise) (fun d k => by pointwise)
    (fun k => ld_row x3 (RW i 3) _ (k0_off1_eq i 3) inb k) d l

/-- Subspace 3 of a block, its scales row loaded at the offset of the second pass. -/
theorem part3_2 (mask : BitVec 32) (i : grid0.Coords) (x1 : Vec Ideal S1x16x4x2x8x128 .i32) (x2 : Vec Ideal S4x96x256 .i8) (x3 : Vec Ideal S24x256 .f32)
    (hw : ∀ g d k, WT i x2 x3 g d k ≠ ⊤ ∧ WT i x2 x3 g d k ≠ ⊥) (inb) (d : Fin 96) (l : Fin 256) :
    PART (CNTS mask
        (View.ld x1 (Rect.unit ![0, 0, 3, 0, 0, 0] ![1, 16, 1, 1, 8, 128] inb_S1x16x4x2x8x128_S1x16x1x1x8x128_0_0_3_0_0_0))
        (View.ld x1 (Rect.unit ![0, 0, 3, 1, 0, 0] ![1, 16, 1, 1, 8, 128] inb_S1x16x4x2x8x128_S1x16x1x1x8x128_0_0_3_1_0_0)))
      (WTS (View.ld x2 (Rect.unit ![3, 0, 0] ![1, 96, 256] inb_S4x96x256_S1x96x256_3_0_0))
        (View.ld x3 (Rect.unit (k0_off2 i 3#32) ![1, 256] inb))) (ix2 d l) = SM mask i x1 x2 x3 3 d l :=
  piece mask i x1 x2 x3 hw 3 _ _ _ _ (fun p q r => by pointwise) (fun p q r => by pointwise) (fun d k => by pointwise)
    (fun k => ld_row x3 (RW i 3) _ (k0_off2_eq i 3) inb k) d l

/-- Case B's block, at bag `y 0` and column `y 1`. -/
theorem out_B (c : Dev nD) (i : grid0.Coords) (arg1 : Memref sig .tc .smem S1 .i32) (harg1 : arg1.IsWhole) (arg2 : Memref sig .tc .vmem S1x16x4x2x8x128 .i32) (harg2 : arg2.IsWhole) (arg3 : Memref sig .tc .vmem S4x96x256 .i8) (harg3 : arg3.IsWhole) (arg4 : Memref sig .tc .vmem S24x256 .f32) (harg4 : arg4.IsWhole) (arg5 : Memref sig .tc .vmem S256x384 .bf16) (harg5 : arg5.IsWhole) (arg6 : Memref sig .tc .vmem S384x256 .f32) (harg6 : arg6.IsWhole)
    (x0 : Vec Ideal S1 .i32) (x1 : Vec Ideal S1x16x4x2x8x128 .i32) (x2 : Vec Ideal S4x96x256 .i8) (x3 : Vec Ideal S24x256 .f32) (hc0 : ¬cond0_0 i (arg1.view.readAt (Elt Ideal) (Rect.unit (s := S1) ![0] S1.size inb_S1_S1_0).toLoadRect (harg1.unread x0) (Shape.Idx.first (numel1_S1.symm ▸ Nat.one_pos))))
    (hw : ∀ g d k, WT i x2 x3 g d k ≠ ⊤ ∧ WT i x2 x3 g d k ≠ ⊥) (y : S256x384.Idx) :
    out0_B_4 c i arg1 harg1 arg2 harg2 arg3 harg3 arg4 harg4 arg5 harg5 arg6 harg6 x0 x1 x2 x3 hc0 y = RES (fun g d l => SM 255#32 i x1 x2 x3 g d l) (ix2 (y 1) (y 0)) := by
  frame_out
  rw [View.readCov_eq_canon']
  simp only [lo0, lo1, lo2, lo3, hi0, hi1, hi2, hi3, shapeCast_self]
  pointwise [k0_pay3]
  rw [stack (fun g d l => SM 255#32 i x1 x2 x3 g d l)]
  · exact fun d l => part0_1 255#32 i x1 x2 x3 hw _ d l
  · exact fun d l => part1_1 255#32 i x1 x2 x3 hw _ d l
  · exact fun d l => part2_1 255#32 i x1 x2 x3 hw _ d l
  · exact fun d l => part3_1 255#32 i x1 x2 x3 hw _ d l

/-- Case A's block, at bag `y 0` and column `y 1`. -/
theorem out_A (c : Dev nD) (i : grid0.Coords) (arg1 : Memref sig .tc .smem S1 .i32) (harg1 : arg1.IsWhole) (arg2 : Memref sig .tc .vmem S1x16x4x2x8x128 .i32) (harg2 : arg2.IsWhole) (arg3 : Memref sig .tc .vmem S4x96x256 .i8) (harg3 : arg3.IsWhole) (arg4 : Memref sig .tc .vmem S24x256 .f32) (harg4 : arg4.IsWhole) (arg5 : Memref sig .tc .vmem S256x384 .bf16) (harg5 : arg5.IsWhole) (arg6 : Memref sig .tc .vmem S384x256 .f32) (harg6 : arg6.IsWhole)
    (x0 : Vec Ideal S1 .i32) (x1 : Vec Ideal S1x16x4x2x8x128 .i32) (x2 : Vec Ideal S4x96x256 .i8) (x3 : Vec Ideal S24x256 .f32) (hc0 : cond0_0 i (arg1.view.readAt (Elt Ideal) (Rect.unit (s := S1) ![0] S1.size inb_S1_S1_0).toLoadRect (harg1.unread x0) (Shape.Idx.first (numel1_S1.symm ▸ Nat.one_pos))))
    (hw : ∀ g d k, WT i x2 x3 g d k ≠ ⊤ ∧ WT i x2 x3 g d k ≠ ⊥) (y : S256x384.Idx) :
    out0_A_4 c i arg1 harg1 arg2 harg2 arg3 harg3 arg4 harg4 arg5 harg5 arg6 harg6 x0 x1 x2 x3 hc0 y = RES (fun g d l => SM 255#32 i x1 x2 x3 g d l + SM 65280#32 i x1 x2 x3 g d l) (ix2 (y 1) (y 0)) := by
  frame_out
  simp (disch := decide) only [↓ View.readCov_skip, ↓ View.readCov_cons_toLoadRect, ↓ View.readCov_fill]
  rw [View.readCov_eq_canon']
  simp only [lo0, lo1, lo2, lo3, hi0, hi1, hi2, hi3, shapeCast_self]
  pointwise [k0_pay3]
  rw [stack (fun g d l => SM 255#32 i x1 x2 x3 g d l + SM 65280#32 i x1 x2 x3 g d l)]
  · exact fun d l => congrArg₂ (· + ·) (part0_1 255#32 i x1 x2 x3 hw _ d l) (part0_2 65280#32 i x1 x2 x3 hw _ d l)
  · exact fun d l => congrArg₂ (· + ·) (part1_1 255#32 i x1 x2 x3 hw _ d l) (part1_2 65280#32 i x1 x2 x3 hw _ d l)
  · exact fun d l => congrArg₂ (· + ·) (part2_1 255#32 i x1 x2 x3 hw _ d l) (part2_2 65280#32 i x1 x2 x3 hw _ d l)
  · exact fun d l => congrArg₂ (· + ·) (part3_1 255#32 i x1 x2 x3 hw _ d l) (part3_2 65280#32 i x1 x2 x3 hw _ d l)

end Cert.KernelIdeal.Value

end
-- ==== Proof.KArray.lean ====
module

public import proofs.«01_k».proof.Proof.OutBlock
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The offsets argument. -/
def OFF (c : Dev nD) (b : Fin 257) : BitVec 32 := m ((c : Thread nD τ).loc main_arg4) (ix1 b)

/-- The longest bag, as the host computes it: the signed maximum of the differences of neighbouring offsets. -/
def LG (c : Dev nD) : BitVec 32 :=
  Finset.fold IntOp.maxsi 2147483648#32 (fun x : Fin 256 => IntOp.subi (OFF m c ⟨1 + x.val, by omega⟩) (OFF m c ⟨x.val, by omega⟩)) Finset.univ

/-- The packed word of subspace `s`, bag `l` and code `k`. -/
def WORD (c : Dev nD) (s : Fin 24) (l k : Fin 256) : BitVec 32 :=
  m ((c : Thread nD τ).loc main_arg5) (ix1 ⟨s.val / 12 * 393216 + l.val / 16 * 24576 + s.val % 12 * 2048 + k.val / 128 * 1024 + l.val % 16 % 8 * 128 + k.val % 128, by omega⟩)

/-- The scaled codeword of subspace `s` at coordinate `d` and code `k`. -/
def CW (c : Dev nD) (s : Fin 24) (d : Fin 96) (k : Fin 256) : EReal :=
  FloatOps.sitofp (F := Ideal) .f32 (m ((c : Thread nD τ).loc main_arg1) (ix3 s k d)) * m ((c : Thread nD τ).loc main_arg2) (ix2 s k)

theorem v0_at (c : Dev nD) (a : Fin 2) (b : Fin 16) (e : Fin 12) (h : Fin 2) (q : Fin 8) (r : Fin 128) :
    V m c main_v0 (ix6 a b e h q r) = m ((c : Thread nD τ).loc main_arg5)
      (ix1 ⟨a.val * 393216 + b.val * 24576 + e.val * 2048 + h.val * 1024 + q.val * 128 + r.val, by omega⟩) := by
  entry_read
  pointwise

theorem v6_at (c : Dev nD) (s : Fin 24) (d : Fin 96) (k : Fin 256) :
    V m c main_v6 (ix3 s d k) = m ((c : Thread nD τ).loc main_arg1) (ix3 s k d) := by
  entry_read
  pointwise

theorem v5_at (c : Dev nD) : V m c main_v5 (ix1 0) = LG m c := by
  entry_read
  pointwise
  rfl

theorem idx0 : ∀ t : Fin cfg0.N, (win0_1.index t = ![(grid0.coords t 0).val / 3, 0, (grid0.coords t 0).val % 3, 0, 0, 0] ∧ win0_2.index t = ![(grid0.coords t 0).val, 0, 0])
    ∧ win0_3.index t = ![0, 0] ∧ win0_4.index t = ![0, (grid0.coords t 0).val] ∧ win0_0.index t = ![0] :=
  (by decide +kernel : ∀ t : Fin grid0.N, (win0_1.index t = ![(grid0.coords t 0).val / 3, 0, (grid0.coords t 0).val % 3, 0, 0, 0] ∧ win0_2.index t = ![(grid0.coords t 0).val, 0, 0])
    ∧ win0_3.index t = ![0, 0] ∧ win0_4.index t = ![0, (grid0.coords t 0).val] ∧ win0_0.index t = ![0])

theorem wd_eq (c : Dev nD) (t : Fin cfg0.N) (g : Fin 4) (l k : Fin 256) :
    WD (iblk m c 1 t) g l k = WORD m c (RW (grid0.coords t) g) l k := by
  have ht : (grid0.coords t 0).val < 6 := (grid0.coords t 0).isLt
  unfold WD WORD
  blk_simp [iblk]
  refine (congrArg (V m c main_v0) (?_ : _ = ix6 ⟨(RW (grid0.coords t) g).val / 12, by omega⟩ ⟨l.val / 16, by omega⟩ ⟨(RW (grid0.coords t) g).val % 12, by omega⟩
    ⟨k.val / 128, by omega⟩ ⟨l.val % 16 % 8, by omega⟩ ⟨k.val % 128, by omega⟩)).trans (v0_at ..)
  unfold RW
  blk_ext [(idx0 t).1.1]

theorem wt_eq (c : Dev nD) (t : Fin cfg0.N) (g : Fin 4) (d : Fin 96) (k : Fin 256) :
    WT (grid0.coords t) (iblk m c 2 t) (iblk m c 3 t) g d k = CW m c (RW (grid0.coords t) g) d k := by
  unfold WT CW
  blk_simp [iblk]
  have e1 : (win0_2.blk t).view.emb (ix3 g d k) = ix3 (RW (grid0.coords t) g) d k := by
    unfold RW
    blk_ext [(idx0 t).1.2]
  have e2 : (win0_3.blk t).view.emb (ix2 (RW (grid0.coords t) g) k) = ix2 (RW (grid0.coords t) g) k := by
    blk_ext [(idx0 t).2.1]
  rw [e1, e2, v6_at, V_main_arg2]

theorem cond_eq (c : Dev nD) (t : Fin cfg0.N) :
    ((ms0_0 t).view.readAt (Elt Ideal) (Rect.unit (s := S1) ![0] S1.size inb_S1_S1_0).toLoadRect ((hs0_0 t).unread (iblk m c 0 t)) (Shape.Idx.first (numel1_S1.symm ▸ Nat.one_pos))) = LG m c := by
  simp only [View.readAt_eq_ld, (hs0_0 t).read_unread]
  rw [show Shape.Idx.first (numel1_S1.symm ▸ Nat.one_pos) = (ix1 0 : S1.Idx) from by blk_ext]
  pointwise
  blk_simp [iblk]
  rw [show (win0_0.blk t).view.emb (ix1 0) = ix1 0 from by blk_ext [(idx0 t).2.2.2]]
  exact v5_at m c

/-- The kernel's value at bag `l`, subspace `s` and coordinate `d`: the codewords times the low bytes of the counts, and
    when some bag is long, also times the high bytes. -/
def KV (c : Dev nD) (s : Fin 24) (d : Fin 96) (l : Fin 256) : EReal :=
  (∑ k : Fin 256, CW m c s d k * CN 255#32 (WORD m c s l k) l)
    + if (Scalar.cmpi .ne (Scalar.extui (Scalar.cmpi .sge (LG m c) 256#32)) 0#32) = 1#1 then ∑ k : Fin 256, CW m c s d k * CN 65280#32 (WORD m c s l k) l else 0

/-- The kernel's result array. -/
def KOUT (c : Dev nD) : Vec Ideal S256x2304 .bf16 := fun j =>
  KV m c ⟨(j 1).val / 96, by have h : (j 1).val < 2304 := (j 1).isLt; omega⟩ ⟨(j 1).val % 96, by omega⟩ (j 0)

/-- The sum over a block's codes, in terms of the arguments. -/
theorem sm_eq (c : Dev nD) (t : Fin cfg0.N) (mask : BitVec 32) (g : Fin 4) (d : Fin 96) (l : Fin 256) :
    SM mask (grid0.coords t) (iblk m c 1 t) (iblk m c 2 t) (iblk m c 3 t) g d l
      = ∑ k : Fin 256, CW m c (RW (grid0.coords t) g) d k * CN mask (WORD m c (RW (grid0.coords t) g) l k) l := by
  unfold SM
  exact Finset.sum_congr rfl fun k _ => by rw [wt_eq, wd_eq]

/-- Where a block's element lies in the result array. -/
theorem res_eq (c : Dev nD) (t : Fin cfg0.N) (f : Fin 4 → Fin 96 → Fin 256 → EReal)
    (hf : ∀ g d l, f g d l = KV m c (RW (grid0.coords t) g) d l) (y : S256x384.Idx) :
    RES f (ix2 (y 1) (y 0)) = KOUT m c ((win0_4.blk t).view.emb y) := by
  have ht : (grid0.coords t 0).val < 6 := (grid0.coords t 0).isLt
  have hy : (y 1).val < 384 := (y 1).isLt
  rw [RES_at f _ ⟨(y 1).val / 96, by omega⟩ ⟨(y 1).val % 96, by omega⟩ (y 0) (by show (y 1).val = _; dsimp only; omega) rfl]
  refine (hf _ _ _).trans ?_
  have e : (win0_4.blk t).view.emb y = ix2 (y 0) ⟨(grid0.coords t 0).val * 384 + (y 1).val, by omega⟩ := by
    blk_ext [(idx0 t).2.2.1]
  rw [e]
  show KV m c _ _ _ = KV m c _ _ _
  congr 1
  · exact Fin.ext (by show 4 * (grid0.coords t 0).val + (y 1).val / 96 = ((grid0.coords t 0).val * 384 + (y 1).val) / 96; omega)
  · exact Fin.ext (by show (y 1).val % 96 = ((grid0.coords t 0).val * 384 + (y 1).val) % 96; omega)

/-- The result array after the run, when the scaled codewords are finite. -/
theorem arr_eq (c : Dev nD) (hw : ∀ s d k, CW m c s d k ≠ ⊤ ∧ CW m c s d k ≠ ⊥) :
    (dats m 0 c).arrAt 4 cfg0.N = KOUT m c := by
  refine (dats m 0 c).arrAt_eq_of_covers 4 _ (by decide +kernel) fun t hf y => ?_
  blk_simp
  rw [after0_4]
  by_cases h0 : cond0_0 (grid0.coords t) ((ms0_0 t).view.readAt (Elt Ideal) (Rect.unit (s := S1) ![0] S1.size inb_S1_S1_0).toLoadRect ((hs0_0 t).unread (iblk m c 0 t)) (Shape.Idx.first (numel1_S1.symm ▸ Nat.one_pos)))
  · rw [outsAt0_A m c t h0, out_A (hw := fun g d k => by rw [wt_eq]; exact hw _ _ _)]
    rw [cond_eq] at h0
    refine res_eq m c t _ (fun g d l => ?_) y
    unfold cond0_0 at h0
    rw [sm_eq, sm_eq, KV, if_pos h0]
  · rw [outsAt0_B m c t h0, out_B (hw := fun g d k => by rw [wt_eq]; exact hw _ _ _)]
    rw [cond_eq] at h0
    refine res_eq m c t _ (fun g d l => ?_) y
    unfold cond0_0 at h0
    rw [sm_eq, KV, if_neg h0, add_zero]

end Cert.KernelIdeal.Value

end
-- ==== Proof.RefValue.lean ====
module

public import proofs.«01_k».proof.Proof.Gen.ReferenceIdeal.Read
public import Idealize.ShloMosaic.Lib.Pipeline.ValueKit
public import Idealize.ShloMosaic.Lib.Pointwise
public import Idealize.ShloMosaic.Lib.Routing.OpsPair
public import Idealize.ShloMosaic.Lib.Routing.OpsSearch
public import Idealize.ShloMosaic.Lib.Tactic

@[expose] public section

set_option maxRecDepth 16384

noncomputable section

namespace Cert.ReferenceIdeal.Read

open Cert.ReferenceIdeal Cert.ReferenceIdeal.Gen Idealize.ShloMosaic Idealize.ShloMosaic.TcCoe Idealize.SL.Sem

/-- A small word read signed is the number it was made of. -/
theorem toInt_small {n : ℕ} (h : n < 2 ^ 31) : (BitVec.ofNat 32 n).toInt.toNat = n := by
  rw [BitVec.toInt_eq_toNat_of_lt (by rw [BitVec.toNat_ofNat, Nat.mod_eq_of_lt (by omega)]; omega), BitVec.toNat_ofNat, Nat.mod_eq_of_lt (by omega)]
  rfl

/-- A sum of one-bit words widened counts the true ones. -/
theorem fold_count {ι : Type} [DecidableEq ι] (S : Finset ι) (P : ι → Prop) [DecidablePred P] (f : ι → BitVec 32)
    (hf : ∀ x, f x = if P x then 1#32 else 0#32) :
    Finset.fold IntOp.addi 0#32 f S = BitVec.ofNat 32 (S.filter P).card := by
  induction S using Finset.induction_on with
  | empty => rfl
  | insert a S ha ih =>
    rw [Finset.fold_insert ha, ih, hf, Finset.filter_insert]
    by_cases h : P a
    · rw [if_pos h, if_pos h, Finset.card_insert_of_notMem (by simp [ha])]
      show BitVec.ofNat 32 1 + _ = _
      rw [BitVec.ofNat_add_ofNat, Nat.add_comm]
    · rw [if_neg h, if_neg h]; exact BitVec.zero_add _

/-- A byte widened with its sign and made a float is the byte made a float. -/
theorem sitofp_ext (w : BitVec 8) : FloatOps.sitofp (F := Ideal) .f32 (BitVec.signExtend 32 w) = FloatOps.sitofp (F := Ideal) .f32 w := by
  show (((BitVec.signExtend 32 w).toInt : ℝ) : EReal) = ((w.toInt : ℝ) : EReal)
  rw [BitVec.toInt_signExtend_of_le (by decide)]

/-- The segment sum at an index, over any shapes: the start plus the sum of the updates landing there. -/
theorem scatter_at {s si su : Shape} (d : ScatterDims s si su) (x : s.Idx → Ideal .f32) (idx : IVec si 32) (u : su.Idx → Ideal .f32) (i : s.Idx) :
    Host.scatterAdd (F := Ideal) (φ := .f32) d x idx u i = x i + ∑ j ∈ Finset.univ.filter (fun j => d.resultIdx? j idx = some i), u j := rfl

/-- The lookup of a codeword's coordinate: the two index words are clamped to the table. -/
theorem gather_book {α : Type} (x : S24x256x96.Idx → α) (idx : IVec S12288x24x2 32) (p : Fin 12288) (s : Fin 24) (d : Fin 96)
    (a : Fin 24) (b : Fin 256) (ha : idx (ix3 p s 0) = BitVec.ofNat 32 a.val) (hb : idx (ix3 p s 1) = BitVec.ofNat 32 b.val) :
    Host.gather gather_S24x256x96_S12288x24x2_S12288x24x96_2_01_n_n_01_2_1196 x idx (ix3 p s d) = x (ix3 a b d) := by
  unfold Host.gather
  refine congrArg x (funext fun q => Fin.ext ?_)
  have e0 : (idx (ix3 p s 0)).toInt.toNat = a.val := by rw [ha]; exact toInt_small (by have := a.isLt; omega)
  have e1 : (idx (ix3 p s 1)).toInt.toNat = b.val := by rw [hb]; exact toInt_small (by have := b.isLt; omega)
  have i0 : ∀ h, gather_S24x256x96_S12288x24x2_S12288x24x96_2_01_n_n_01_2_1196.siIdx (ix3 p s d) ⟨0, h⟩ = ix3 p s 0 := fun h => by
    funext r; fin_cases r <;> rfl
  have i1 : ∀ h, gather_S24x256x96_S12288x24x2_S12288x24x96_2_01_n_n_01_2_1196.siIdx (ix3 p s d) ⟨1, h⟩ = ix3 p s 1 := fun h => by
    funext r; fin_cases r <;> rfl
  match q with
  | ⟨0, _⟩ =>
    refine (congrArg (fun z => min (idx z).toInt.toNat 23 + 0 + 0) (i0 (by decide))).trans ?_
    show min (idx (ix3 p s 0)).toInt.toNat 23 + 0 + 0 = a.val
    rw [e0]; omega
  | ⟨1, _⟩ =>
    refine (congrArg (fun z => min (idx z).toInt.toNat 255 + 0 + 0) (i1 (by decide))).trans ?_
    show min (idx (ix3 p s 1)).toInt.toNat 255 + 0 + 0 = b.val
    rw [e1]; omega
  | ⟨2, _⟩ => show 0 + 0 + d.val = d.val; omega

/-- The lookup of a code's scale. -/
theorem gather_scale {α : Type} (x : S24x256.Idx → α) (idx : IVec S12288x24x2 32) (p : Fin 12288) (s : Fin 24)
    (a : Fin 24) (b : Fin 256) (ha : idx (ix3 p s 0) = BitVec.ofNat 32 a.val) (hb : idx (ix3 p s 1) = BitVec.ofNat 32 b.val) :
    Host.gather gather_S24x256_S12288x24x2_S12288x24_n_01_n_n_01_2_11 x idx (ix2 p s) = x (ix2 a b) := by
  unfold Host.gather
  refine congrArg x (funext fun q => Fin.ext ?_)
  have e0 : (idx (ix3 p s 0)).toInt.toNat = a.val := by rw [ha]; exact toInt_small (by have := a.isLt; omega)
  have e1 : (idx (ix3 p s 1)).toInt.toNat = b.val := by rw [hb]; exact toInt_small (by have := b.isLt; omega)
  have i0 : ∀ h, gather_S24x256_S12288x24x2_S12288x24_n_01_n_n_01_2_11.siIdx (ix2 p s) ⟨0, h⟩ = ix3 p s 0 := fun h => by
    funext r; fin_cases r <;> rfl
  have i1 : ∀ h, gather_S24x256_S12288x24x2_S12288x24_n_01_n_n_01_2_11.siIdx (ix2 p s) ⟨1, h⟩ = ix3 p s 1 := fun h => by
    funext r; fin_cases r <;> rfl
  match q with
  | ⟨0, _⟩ =>
    refine (congrArg (fun z => min (idx z).toInt.toNat 23 + 0 + 0) (i0 (by decide))).trans ?_
    show min (idx (ix3 p s 0)).toInt.toNat 23 + 0 + 0 = a.val
    rw [e0]; omega
  | ⟨1, _⟩ =>
    refine (congrArg (fun z => min (idx z).toInt.toNat 255 + 0 + 0) (i1 (by decide))).trans ?_
    show min (idx (ix3 p s 1)).toInt.toNat 255 + 0 + 0 = b.val
    rw [e1]; omega

/-- Where an update of the segment sum lands: the row its index word names, read signed, the same column. -/
theorem lands (idx : IVec S12288x1 32) (p : Fin 12288) (q : Fin 2304) (l : Fin 256) (r : Fin 2304) :
    scatter_S256x2304_S12288x1_S12288x2304_1_0_0_1.resultIdx? (ix2 p q) idx = some (ix2 l r) ↔ (idx (ix2 p 0)).toInt = l.val ∧ q = r := by
  have i0 : ∀ h, scatter_S256x2304_S12288x1_S12288x2304_1_0_0_1.siIdx (ix2 p q) ⟨0, h⟩ = ix2 p 0 := fun h => by
    funext r; fin_cases r <;> rfl
  rw [Routing.resultIdx?_eq_some]
  constructor
  · intro h
    have h0 : (idx (ix2 p 0)).toInt + ((0 : ℕ) : Int) = (l.val : Int) :=
      (congrArg (fun z => (idx z).toInt + ((0 : ℕ) : Int)) (i0 (by decide))).symm.trans (h 0)
    have h1 : (0 : Int) + ((q.val : ℕ) : Int) = (r.val : Int) := h 1
    exact ⟨by omega, Fin.ext (by omega)⟩
  · rintro ⟨h0, rfl⟩ a
    match a with
    | ⟨0, _⟩ =>
      refine (congrArg (fun z => (idx z).toInt + ((0 : ℕ) : Int)) (i0 (by decide))).trans ?_
      show (idx (ix2 p 0)).toInt + ((0 : ℕ) : Int) = (l.val : Int)
      omega
    | ⟨1, _⟩ => show (0 : Int) + ((q.val : ℕ) : Int) = (q.val : Int); omega

variable (x0 : (⟨S10000000x24, .i8⟩ : BufTy).Contents (Elt Ideal)) (x1 : (⟨S24x256x96, .i8⟩ : BufTy).Contents (Elt Ideal)) (x2 : (⟨S24x256, .f32⟩ : BufTy).Contents (Elt Ideal))
  (x3 : (⟨S12288, .i32⟩ : BufTy).Contents (Elt Ideal)) (x4 : (⟨S257, .i32⟩ : BufTy).Contents (Elt Ideal))

/-- The code of a looked-up row in a subspace: the widened byte. -/
def CODE (p : Fin 12288) (s : Fin 24) : BitVec 32 := val_main_v7 (F := Ideal) x0 x3 (ix2 p s)

theorem CODE_lt (p : Fin 12288) (s : Fin 24) : (CODE x0 x3 p s).toNat < 256 := by
  unfold CODE
  rw [val_main_v7_apply]
  have := (val_main_v6 (F := Ideal) x0 x3 (ix2 p s)).isLt
  rw [BitVec.toNat_setWidth]
  have e : (8 : ℕ) = 8 := rfl
  exact lt_of_le_of_lt (Nat.mod_le _ _) this

/-- The code as an index. -/
def CI (p : Fin 12288) (s : Fin 24) : Fin 256 := ⟨(CODE x0 x3 p s).toNat, CODE_lt x0 x3 p s⟩

/-- The bag of a position, as the reference's word. -/
def SEG (p : Fin 12288) : BitVec 32 := val_main_v48 (F := Ideal) x4 (ix1 p)

/-- The first index of the lookups is the subspace. -/
theorem v23_0 (p : Fin 12288) (s : Fin 24) : val_main_v23 (F := Ideal) x0 x3 (ix3 p s 0) = BitVec.ofNat 32 s.val := by
  unfold val_main_v23
  pointwise [val_main_v21, val_main_v20, val_main_v14, val_main_v13, val_main_v11, val_main_v9, val_main_v8, val_main_v10, val_main_c_1]
  refine Routing.wrap_of_lt _ _ ?_
  have := s.isLt
  rw [BitVec.toNat_ofNat]; omega

theorem v38_0 (p : Fin 12288) (s : Fin 24) : val_main_v38 (F := Ideal) x0 x3 (ix3 p s 0) = BitVec.ofNat 32 s.val := by
  unfold val_main_v38
  pointwise [val_main_v36, val_main_v35, val_main_v29, val_main_v28, val_main_v26, val_main_v9, val_main_v8, val_main_v25, val_main_c_5]
  refine Routing.wrap_of_lt _ _ ?_
  have := s.isLt
  rw [BitVec.toNat_ofNat]; omega

theorem ofNat_code (p : Fin 12288) (s : Fin 24) : val_main_v7 (F := Ideal) x0 x3 (ix2 p s) = BitVec.ofNat 32 (CI x0 x3 p s).val :=
  BitVec.eq_of_toNat_eq (by rw [BitVec.toNat_ofNat, Nat.mod_eq_of_lt (by have := (CI x0 x3 p s).isLt; omega)]; rfl)

/-- The second index of the lookups is the code. -/
theorem v23_1 (p : Fin 12288) (s : Fin 24) : val_main_v23 (F := Ideal) x0 x3 (ix3 p s 1) = BitVec.ofNat 32 (CI x0 x3 p s).val := by
  unfold val_main_v23
  pointwise [val_main_v22, val_main_v19, val_main_v18, val_main_v17, val_main_v16, val_main_v15]
  refine (Routing.wrap_of_lt _ _ (lt_trans (CODE_lt x0 x3 p s) (by decide))).trans (ofNat_code x0 x3 p s)

theorem v38_1 (p : Fin 12288) (s : Fin 24) : val_main_v38 (F := Ideal) x0 x3 (ix3 p s 1) = BitVec.ofNat 32 (CI x0 x3 p s).val := by
  unfold val_main_v38
  pointwise [val_main_v37, val_main_v34, val_main_v33, val_main_v32, val_main_v31, val_main_v30]
  refine (Routing.wrap_of_lt _ _ (lt_trans (CODE_lt x0 x3 p s) (by decide))).trans (ofNat_code x0 x3 p s)

theorem hcol (r : Fin 2304) : r.val / 96 < 24 := by have := r.isLt; omega
theorem hcol' (r : Fin 2304) : r.val % 96 < 96 := by omega

/-- A looked-up row at a column: the codeword's coordinate times its scale. -/
theorem v45_at (p : Fin 12288) (r : Fin 2304) : val_main_v45 (F := Ideal) x0 x1 x2 x3 (ix2 p r)
    = FloatOps.sitofp (F := Ideal) .f32 (x1 (ix3 ⟨r.val / 96, hcol r⟩ (CI x0 x3 p ⟨r.val / 96, hcol r⟩) ⟨r.val % 96, hcol' r⟩))
      * x2 (ix2 ⟨r.val / 96, hcol r⟩ (CI x0 x3 p ⟨r.val / 96, hcol r⟩)) := by
  have h24 := gather_book x1 (val_main_v23 (F := Ideal) x0 x3) p ⟨r.val / 96, hcol r⟩ ⟨r.val % 96, hcol' r⟩ _ _ (v23_0 x0 x3 p _) (v23_1 x0 x3 p _)
  have h39 := gather_scale x2 (val_main_v38 (F := Ideal) x0 x3) p ⟨r.val / 96, hcol r⟩ _ _ (v38_0 x0 x3 p _) (v38_1 x0 x3 p _)
  rw [← h24, ← h39]
  unfold val_main_v45
  pointwise [val_main_v44, val_main_v43, val_main_v42, val_main_v41, val_main_v40, val_main_v24, val_main_v39]
  rw [sitofp_ext]

/-- The reference's result: over the positions of the bag, the sum of the looked-up rows. -/
theorem v52_at (l : Fin 256) (r : Fin 2304) : val_main_v52 (F := Ideal) x0 x1 x2 x3 x4 (ix2 l r)
    = ∑ p : Fin 12288, if (SEG x4 p).toInt = (l.val : Int) then
      FloatOps.sitofp (F := Ideal) .f32 (x1 (ix3 ⟨r.val / 96, hcol r⟩ (CI x0 x3 p ⟨r.val / 96, hcol r⟩) ⟨r.val % 96, hcol' r⟩))
      * x2 (ix2 ⟨r.val / 96, hcol r⟩ (CI x0 x3 p ⟨r.val / 96, hcol r⟩)) else 0 := by
  have hz : val_main_v49 (F := Ideal) (ix2 l r) = 0 := by
    unfold val_main_v49; pointwise [val_main_cst]
  have hs : ∀ p : Fin 12288, val_main_v50 (F := Ideal) x4 (ix2 p 0) = SEG x4 p := fun p => by
    unfold val_main_v50; pointwise; rfl
  unfold val_main_v52 val_main_v51
  pointwise
  rw [scatter_at, hz, zero_add, Finset.sum_filter, Idealize.ShloMosaic.sum_idx2]
  refine Finset.sum_congr rfl fun p _ => ?_
  rw [Finset.sum_congr rfl fun q _ => (if_congr (lands (val_main_v50 (F := Ideal) x4) p q l r) rfl rfl)]
  rw [hs]
  by_cases h : (SEG x4 p).toInt = (l.val : Int)
  · rw [if_pos h, ← v45_at]
    rw [Finset.sum_congr rfl fun q _ => (if_congr (P := (SEG x4 p).toInt = (l.val : Int) ∧ q = r) (Q := q = r) ⟨fun z => z.2, fun z => ⟨h, z⟩⟩ rfl rfl), Finset.sum_ite_eq' Finset.univ r, if_pos (Finset.mem_univ _)]
  · rw [if_neg h]
    exact Finset.sum_eq_zero fun q _ => if_neg fun z => h z.1

/-- The bag word of a position as the sum of the tests of the bag ends. -/
theorem SEG_fold (p : Fin 12288) : SEG x4 p = Finset.fold IntOp.addi 0#32
    (fun b : Fin 256 => BitVec.setWidth 32 (IntOp.cmpi .sle (x4 (ix1 ⟨1 + b.val, by omega⟩)) (BitVec.ofNat 32 p.val))) Finset.univ := by
  unfold SEG val_main_v48
  pointwise [val_main_call0_call0_v5, val_main_call0_call0_v4, val_main_call0_call0_v3, val_main_call0_call0_v2, val_main_call0_call0_v1, val_main_call0_call0_v0, val_main_v47, val_main_v46]
  rfl

/-- The bag word of a position counts the bag ends at or before it. -/
theorem SEG_at (p : Fin 12288) : SEG x4 p = BitVec.ofNat 32 ((Finset.univ.filter (fun b : Fin 256 => (x4 (ix1 ⟨1 + b.val, by omega⟩)).toInt ≤ (p.val : Int))).card) := by
  rw [SEG_fold]
  refine fold_count Finset.univ _ _ fun b => ?_
  have hp : (BitVec.ofNat 32 p.val).toInt = (p.val : Int) := by
    have := p.isLt
    rw [BitVec.toInt_eq_toNat_of_lt (by rw [BitVec.toNat_ofNat, Nat.mod_eq_of_lt (by omega)]; omega), BitVec.toNat_ofNat, Nat.mod_eq_of_lt (by omega)]
  by_cases h : (x4 (ix1 ⟨1 + b.val, by omega⟩)).toInt ≤ (p.val : Int)
  · rw [if_pos h]
    show BitVec.setWidth 32 (BitVec.ofBool (BitVec.sle _ _)) = _
    rw [show BitVec.sle (x4 (ix1 ⟨1 + b.val, by omega⟩)) (BitVec.ofNat 32 p.val) = true from by rw [BitVec.sle, hp]; exact decide_eq_true h]
    rfl
  · rw [if_neg h]
    show BitVec.setWidth 32 (BitVec.ofBool (BitVec.sle _ _)) = _
    rw [show BitVec.sle (x4 (ix1 ⟨1 + b.val, by omega⟩)) (BitVec.ofNat 32 p.val) = false from by rw [BitVec.sle, hp]; exact decide_eq_false h]
    rfl

end Cert.ReferenceIdeal.Read

end
-- ==== Proof.PreFacts.lean ====
module

public import proofs.«01_k».proof.Pre_pre
public import proofs.«01_k».proof.Proof.RefValue
public import Idealize.ShloMosaic.Lib.StableHlo.Predicate
public import Idealize.ShloMosaic.Lib.Pipeline.ValueKit
public import Idealize.ShloMosaic.Lib.ReduceAll
public import Idealize.ShloMosaic.Lib.Pointwise
public import Idealize.ShloMosaic.Lib.Tactic

@[expose] public section

set_option maxRecDepth 16384

noncomputable section

namespace Cert.Pre_pre.Decode

open Cert.Pre_pre Idealize.ShloMosaic

variable [Cert.Pre_pre.Facts]
open Cert.Pre_pre.Facts

instance : Subsingleton S_.Idx := ⟨fun a b => funext fun q => q.elim0⟩

theorem and_one {a b : IVec S_ 1} (h : andi a b = fun _ => 1#1) : (a = fun _ => 1#1) ∧ (b = fun _ => 1#1) := by
  constructor <;> funext i <;> have := congrFun h i <;> revert this <;>
    (show IntOp.andi (a i) (b i) = 1#1 → _; generalize a i = x; generalize b i = y; revert x y; decide)

/-- The last part: what came before holds, and every scale's test holds. -/
theorem part3 (v58 : IVec S_ 1) (v61 : IVec S24x256 1) (h : fn_part3 (F := Ideal) v58 v61 = fun _ => 1#1) :
    (v58 = fun _ => 1#1) ∧ ∀ i, v61 i = 1#1 := by
  obtain ⟨h1, h2⟩ := and_one h
  exact ⟨h1, fun i => Host.reduce_andi_all v61 _ _ _ ix0 (congrFun h2 ix0) i⟩

theorem part2 (x2 : FVec Ideal S24x256 .f32) (x4 : IVec S257 32) (v33 : FVec Ideal S2x2x16x12x2x8x128 .f32) (v34 : IVec S2x16x12x2x8x128 32) (v41 : IVec S_ 1) (c4 : IVec S_ 32)
    (hc : c4 = constantI S_ 32 16#32) (h : fn_part2 (F := Ideal) x2 x4 v33 v34 v41 c4 = fun _ => 1#1) :
    (v41 = fun _ => 1#1)
    ∧ (∀ q g t k b d, FloatOps.sitofp (F := Ideal) .f32 (Host.shrui v34 (constantI _ 32 16#32) (ix6 q g t k b d)) = v33 (ix7 1 q g t k b d))
    ∧ x4 (ix1 0) = 0#32
    ∧ (∀ b : Fin 256, (x4 (ix1 ⟨b.val, by omega⟩)).toInt ≤ (x4 (ix1 ⟨1 + b.val, by omega⟩)).toInt)
    ∧ ∀ s k, x2 (ix2 s k) ≠ ⊤ ∧ x2 (ix2 s k) ≠ ⊥ := by
  subst hc
  unfold fn_part2 at h
  obtain ⟨h58, h61⟩ := part3 _ _ h
  obtain ⟨h53, h57⟩ := and_one h58
  obtain ⟨h49, h52⟩ := and_one h53
  obtain ⟨h41, h48⟩ := and_one h49
  refine ⟨h41, ?_, ?_, ?_, ?_⟩
  · intro q g t k b d
    have e := Host.reduce_andi_all _ _ _ _ ix0 (congrFun h48 ix0) (ix6 q g t k b d)
    clear h h58 h61 h53 h57 h49 h52 h48
    revert e
    pointwise
    intro e
    exact of_decide_eq_true ((Idealize.ShloMosaic.StableHlo.Predicate.ofBool_eq_one_iff _).1 e)
  · have e := congrFun h52 ix0
    clear h h58 h61 h53 h57 h49 h52 h48
    revert e
    pointwise
    exact fun e => Idealize.ShloMosaic.StableHlo.Predicate.cmpi_eq_iff.1 e
  · intro b
    have e := Host.reduce_andi_all _ _ _ _ ix0 (congrFun h57 ix0) (ix1 b)
    clear h h58 h61 h53 h57 h49 h52 h48
    revert e
    pointwise
    intro e
    have e' : BitVec.ofBool (BitVec.sle (x4 (ix1 ⟨b.val, by omega⟩)) (x4 (ix1 ⟨1 + b.val, by omega⟩))) = 1#1 := e
    rw [Idealize.ShloMosaic.StableHlo.Predicate.ofBool_eq_one_iff, BitVec.sle] at e'
    exact of_decide_eq_true e'
  · intro s k
    have e := h61 (ix2 s k)
    clear h h58 h61 h53 h57 h49 h52 h48
    revert e
    pointwise
    intro e
    have e' := of_decide_eq_true ((Idealize.ShloMosaic.StableHlo.Predicate.ofBool_eq_one_iff _).1 e)
    generalize x2 (ix2 s k) = y at e' ⊢
    generalize Ideal.ofBits FTy.f32 2139095040#32 = z at e'
    rw [Ideal.absf_def] at e'
    constructor
    · rintro rfl
      exact absurd (lt_of_le_of_lt (le_max_left _ _) e') not_top_lt
    · rintro rfl
      exact absurd (lt_of_le_of_lt (le_max_right _ _) e') not_top_lt

/-- Part 1: the low and the high half-words equal the histogram's entries, which are sums of products of two indicators. -/
theorem part1 (x2 : FVec Ideal S24x256 .f32) (x4 : IVec S257 32) (x5 : IVec S786432 32) (v16 : IVec S12288 32) (v19 : IVec S1x1x256 32) (v20 : IVec S12288x24x256 32)
    (h : fn_part1 (F := Ideal) x2 x4 x5 v16 v19 v20 = fun _ => 1#1) :
    (∀ (q : Fin 2) (g : Fin 16) (t : Fin 12) (k : Fin 2) (b : Fin 8) (d : Fin 128), FloatOps.sitofp (F := Ideal) .f32 (IntOp.andi (x5 (ix1 ⟨q.val * 393216 + g.val * 24576 + t.val * 2048 + k.val * 1024 + b.val * 128 + d.val, by omega⟩)) 65535#32)
      = ∑ p : Fin 12288, FloatOps.uitofp (F := Ideal) .f32 (IntOp.cmpi .eq (v16 (ix1 p)) (BitVec.ofNat 32 (g.val * 16 + b.val)))
          * FloatOps.uitofp (F := Ideal) .f32 (IntOp.cmpi .eq (v20 (ix3 p ⟨q.val * 12 + t.val, by omega⟩ ⟨k.val * 128 + d.val, by omega⟩)) (v19 (ix3 0 0 ⟨k.val * 128 + d.val, by omega⟩))))
    ∧ (∀ (q : Fin 2) (g : Fin 16) (t : Fin 12) (k : Fin 2) (b : Fin 8) (d : Fin 128), FloatOps.sitofp (F := Ideal) .f32 (IntOp.shrui .vector (x5 (ix1 ⟨q.val * 393216 + g.val * 24576 + t.val * 2048 + k.val * 1024 + b.val * 128 + d.val, by omega⟩)) 16#32)
      = ∑ p : Fin 12288, FloatOps.uitofp (F := Ideal) .f32 (IntOp.cmpi .eq (v16 (ix1 p)) (BitVec.ofNat 32 (g.val * 16 + 8 + b.val)))
          * FloatOps.uitofp (F := Ideal) .f32 (IntOp.cmpi .eq (v20 (ix3 p ⟨q.val * 12 + t.val, by omega⟩ ⟨k.val * 128 + d.val, by omega⟩)) (v19 (ix3 0 0 ⟨k.val * 128 + d.val, by omega⟩))))
    ∧ x4 (ix1 0) = 0#32
    ∧ (∀ b : Fin 256, (x4 (ix1 ⟨b.val, by omega⟩)).toInt ≤ (x4 (ix1 ⟨1 + b.val, by omega⟩)).toInt)
    ∧ ∀ s k, x2 (ix2 s k) ≠ ⊤ ∧ x2 (ix2 s k) ≠ ⊥ := by
  unfold fn_part1 at h
  obtain ⟨h41, hhi, hrest⟩ := part2 _ _ _ _ _ _ rfl h
  refine ⟨?_, ?_, hrest⟩
  · intro q g t k b d
    have e := Host.reduce_andi_all _ _ _ _ ix0 (congrFun h41 ix0) (ix6 q g t k b d)
    clear h h41 hhi hrest
    revert e
    pointwise
    intro e
    exact of_decide_eq_true ((Idealize.ShloMosaic.StableHlo.Predicate.ofBool_eq_one_iff _).1 e)
  · intro q g t k b d
    have e := hhi q g t k b d
    clear h h41 hhi hrest
    revert e
    pointwise
    exact fun e => e

open Cert.ReferenceIdeal.Read

/-- The 16-bit count a word holds for bag `l`: the low half for the first eight bags of a group of sixteen, the high half for the others. -/
def HW (w : BitVec 32) (l : Fin 256) : BitVec 32 := if l.val % 16 < 8 then IntOp.andi w 65535#32 else IntOp.shrui .vector w 16#32

/-- What the precondition says: the packed counts are the bags' histograms of codes, the bag bounds start at 0 and rise, and no scale is infinite. -/
theorem decode (x0 : IVec S10000000x24 8) (x1 : IVec S24x256x96 8) (x2 : FVec Ideal S24x256 .f32) (x3 : IVec S12288 32) (x4 : IVec S257 32) (x5 : IVec S786432 32)
    (h : fn (F := Ideal) x0 x1 x2 x3 x4 x5 = fun _ => 1#1) :
    (∀ (s : Fin 24) (l k : Fin 256), FloatOps.sitofp (F := Ideal) .f32 (HW (x5 (ix1 ⟨s.val / 12 * 393216 + l.val / 16 * 24576 + s.val % 12 * 2048 + k.val / 128 * 1024 + l.val % 16 % 8 * 128 + k.val % 128, by omega⟩)) l)
      = ∑ p : Fin 12288, FloatOps.uitofp (F := Ideal) .f32 (IntOp.cmpi .eq (SEG x4 p) (BitVec.ofNat 32 l.val))
          * FloatOps.uitofp (F := Ideal) .f32 (IntOp.cmpi .eq (CODE x0 x3 p s) (BitVec.ofNat 32 k.val)))
    ∧ x4 (ix1 0) = 0#32
    ∧ (∀ b : Fin 256, (x4 (ix1 ⟨b.val, by omega⟩)).toInt ≤ (x4 (ix1 ⟨1 + b.val, by omega⟩)).toInt)
    ∧ ∀ s k, x2 (ix2 s k) ≠ ⊤ ∧ x2 (ix2 s k) ≠ ⊥ := by
  unfold fn at h
  obtain ⟨hlo, hhi, hrest⟩ := part1 _ _ _ _ _ _ h
  clear h
  refine ⟨?_, hrest⟩
  intro s l k
  have hs := s.isLt
  have hl := l.isLt
  have hk := k.isLt
  have es : (⟨s.val / 12 * 12 + s.val % 12, by omega⟩ : Fin 24) = s := Fin.ext (by show s.val / 12 * 12 + s.val % 12 = s.val; omega)
  have ek : (⟨k.val / 128 * 128 + k.val % 128, by omega⟩ : Fin 256) = k := Fin.ext (by show k.val / 128 * 128 + k.val % 128 = k.val; omega)
  unfold HW
  by_cases hb : l.val % 16 < 8
  · rw [if_pos hb]
    have e := hlo ⟨s.val / 12, by omega⟩ ⟨l.val / 16, by omega⟩ ⟨s.val % 12, by omega⟩ ⟨k.val / 128, by omega⟩ ⟨l.val % 16 % 8, by omega⟩ ⟨k.val % 128, by omega⟩
    refine e.trans (Finset.sum_congr rfl fun p _ => ?_)
    dsimp only
    rw [es, ek, show l.val / 16 * 16 + l.val % 16 % 8 = l.val by omega]
    pointwise
    rw [← SEG_fold, CODE, val_main_v7_apply]
    unfold val_main_v6 val_main_v5 val_main_v4 val_main_v3 val_main_v2 val_main_v1 val_main_v0 val_main_c_0 val_main_c
    rfl
  · rw [if_neg hb]
    have e := hhi ⟨s.val / 12, by omega⟩ ⟨l.val / 16, by omega⟩ ⟨s.val % 12, by omega⟩ ⟨k.val / 128, by omega⟩ ⟨l.val % 16 % 8, by omega⟩ ⟨k.val % 128, by omega⟩
    refine e.trans (Finset.sum_congr rfl fun p _ => ?_)
    dsimp only
    rw [es, ek, show l.val / 16 * 16 + 8 + l.val % 16 % 8 = l.val by omega]
    pointwise
    rw [← SEG_fold, CODE, val_main_v7_apply]
    unfold val_main_v6 val_main_v5 val_main_v4 val_main_v3 val_main_v2 val_main_v1 val_main_v0 val_main_c_0 val_main_c
    rfl

end Cert.Pre_pre.Decode

end
-- ==== Proof.Words.lean ====
module

public import proofs.«01_k».proof.Proof.KArray
public import proofs.«01_k».proof.Proof.PreFacts
public import Idealize.ShloMosaic.Lib.Tactic

@[expose] public section

set_option maxRecDepth 16384

noncomputable section

namespace Cert.KernelIdeal.Tie

open Idealize.ShloMosaic Cert.Pre_pre.Decode Cert.KernelIdeal.Value

/-! ## The two bytes of a packed count -/

theorem shrui16 (u : ArithUnit) (w : BitVec 32) : IntOp.shrui u w 16#32 = w >>> 16 := if_pos (by decide)

theorem shrsi16 (u : ArithUnit) (w : BitVec 32) : IntOp.shrsi u w 16#32 = w.sshiftRight 16 := if_pos (by decide)

/-- A half-word is below 2^16. -/
theorem HW_lt (w : BitVec 32) (l : Fin 256) : (HW w l).toNat < 65536 := by
  unfold HW
  split
  · show (w &&& 65535#32).toNat < 65536
    rw [BitVec.toNat_and]
    exact lt_of_le_of_lt Nat.and_le_right (by decide)
  · rw [shrui16, BitVec.toNat_ushiftRight, Nat.shiftRight_eq_div_pow]
    have := w.isLt
    omega

/-- A mask below 2^16 sees the same bits of the arithmetic and of the logical shift. -/
theorem shift_mask (w mask : BitVec 32) (h : mask &&& 65535#32 = mask) : w.sshiftRight 16 &&& mask = (w >>> 16) &&& mask := by
  rw [← h]
  ext i hi
  simp only [BitVec.getElem_and, BitVec.getElem_sshiftRight, BitVec.getElem_ushiftRight]
  by_cases h16 : i < 16
  · rw [dif_pos (by omega)]
    simp [BitVec.getLsbD_eq_getElem (show 16 + i < 32 by omega)]
  · have : (65535#32)[i] = false := by
      rw [← BitVec.getLsbD_eq_getElem]
      rw [BitVec.getLsbD_ofNat, show (65535 : ℕ) = 2 ^ 16 - 1 from rfl, Nat.testBit_two_pow_sub_one]
      simp [h16]
    rw [this]
    simp

/-- The kernel's masked count is the masked half-word. -/
theorem CN_eq (mask w : BitVec 32) (l : Fin 256) (h : mask &&& 65535#32 = mask) : CN mask w l = (((HW w l &&& mask).toInt : ℝ) : EReal) := by
  unfold CN HW
  split
  · show (((w &&& mask).toInt : ℝ) : EReal) = ((((w &&& 65535#32) &&& mask).toInt : ℝ) : EReal)
    rw [BitVec.and_assoc, BitVec.and_comm 65535#32 mask, h]
  · rw [shrui16, shrsi16]
    show (((w.sshiftRight 16 &&& mask).toInt : ℝ) : EReal) = _
    rw [shift_mask w mask h]

theorem and_lo (x : BitVec 32) : (x &&& 255#32).toNat = x.toNat % 256 := by
  rw [BitVec.toNat_and]
  exact Nat.and_two_pow_sub_one_eq_mod x.toNat 8

theorem and_hi (x : BitVec 32) (hx : x.toNat < 65536) : (x &&& 65280#32).toNat = x.toNat / 256 * 256 := by
  rw [BitVec.toNat_and]
  show x.toNat &&& 65280 = _
  generalize x.toNat = n at hx
  apply Nat.eq_of_testBit_eq
  intro i
  rw [Nat.testBit_and, show (65280 : ℕ) = (2 ^ 8 - 1) * 2 ^ 8 from rfl, show n / 256 * 256 = n / 2 ^ 8 * 2 ^ 8 from rfl,
    Nat.testBit_mul_two_pow, Nat.testBit_mul_two_pow, Nat.testBit_two_pow_sub_one, Nat.testBit_div_two_pow]
  by_cases h8 : 8 ≤ i
  · rw [show i - 8 + 8 = i by omega]
    by_cases h16 : i < 16
    · simp [h8, show i - 8 < 8 by omega]
    · have : n.testBit i = false := Nat.testBit_lt_two_pow (lt_of_lt_of_le hx (by rw [show (65536 : ℕ) = 2 ^ 16 from rfl]; exact Nat.pow_le_pow_right (by decide) (by omega)))
      simp [this]
  · simp [h8]

theorem toInt_nat {x : BitVec 32} {n : ℕ} (h : x.toNat = n) (hn : n < 2 ^ 31) : x.toInt = n := by
  rw [BitVec.toInt_eq_toNat_of_lt (by omega), h]

theorem CN_lo (w : BitVec 32) (l : Fin 256) : CN 255#32 w l = ((((HW w l).toNat % 256 : ℕ) : ℝ) : EReal) := by
  rw [CN_eq _ _ _ (by decide), toInt_nat (and_lo _) (by omega)]
  rw [Int.cast_natCast]

theorem CN_hi (w : BitVec 32) (l : Fin 256) : CN 65280#32 w l = ((((HW w l).toNat / 256 * 256 : ℕ) : ℝ) : EReal) := by
  have h := HW_lt w l
  rw [CN_eq _ _ _ (by decide), toInt_nat (and_hi _ h) (by omega)]
  rw [Int.cast_natCast]

/-! ## Counts -/

/-- A test made a float is its indicator. -/
theorem ind (a b : BitVec 32) : FloatOps.uitofp (F := Ideal) .f32 (IntOp.cmpi .eq a b) = (((if a = b then 1 else 0 : ℕ) : ℝ) : EReal) := by
  show ((((BitVec.ofBool (a == b)).toNat : ℕ) : ℝ) : EReal) = _
  by_cases h : a = b <;> simp [h]

/-- A finite sum of reals, as extended reals. -/
theorem coe_sum {ι : Type} (S : Finset ι) (f : ι → ℝ) : ∑ i ∈ S, ((f i : ℝ) : EReal) = ((∑ i ∈ S, f i : ℝ) : EReal) := by
  classical
  induction S using Finset.induction_on with
  | empty => rfl
  | insert a S ha ih => rw [Finset.sum_insert ha, Finset.sum_insert ha, ih, EReal.coe_add]

/-- The number of positions with given bag and code words. -/
def NUM (seg code : Fin 12288 → BitVec 32) (l k : BitVec 32) : ℕ := (Finset.univ.filter (fun p => seg p = l ∧ code p = k)).card

theorem sum_ind (seg code : Fin 12288 → BitVec 32) (l k : BitVec 32) :
    ∑ p : Fin 12288, FloatOps.uitofp (F := Ideal) .f32 (IntOp.cmpi .eq (seg p) l) * FloatOps.uitofp (F := Ideal) .f32 (IntOp.cmpi .eq (code p) k)
      = ((NUM seg code l k : ℝ) : EReal) := by
  have e : ∀ p, FloatOps.uitofp (F := Ideal) .f32 (IntOp.cmpi .eq (seg p) l) * FloatOps.uitofp (F := Ideal) .f32 (IntOp.cmpi .eq (code p) k)
      = (((if seg p = l ∧ code p = k then 1 else 0 : ℝ)) : EReal) := fun p => by
    rw [ind, ind]
    by_cases h1 : seg p = l <;> by_cases h2 : code p = k <;> simp [h1, h2]
  rw [Finset.sum_congr rfl fun p _ => e p]
  refine (coe_sum _ _).trans (congrArg _ ?_)
  rw [Finset.sum_boole]
  rfl

/-- A half-word that is a count as a float is that count. -/
theorem HW_num (w : BitVec 32) (l : Fin 256) (n : ℕ) (h : FloatOps.sitofp (F := Ideal) .f32 (HW w l) = ((n : ℝ) : EReal)) : (HW w l).toNat = n := by
  have hl := HW_lt w l
  have e : (((HW w l).toInt : ℝ) : EReal) = ((n : ℝ) : EReal) := h
  rw [toInt_nat rfl (by omega)] at e
  have e' := EReal.coe_injective e
  exact_mod_cast e'

/-! ## The bags -/

/-- For bounds rising from 0, the number of bag ends at or before `p` is `l` only for `p` inside bag `l`. -/
theorem in_bag (f : ℕ → ℤ) (hf : ∀ b < 256, f b ≤ f (b + 1)) (h0 : f 0 = 0) (p : ℕ) (l : ℕ) (hl : l < 256)
    (h : (Finset.univ.filter (fun b : Fin 256 => f (1 + b.val) ≤ (p : ℤ))).card = l) : f l ≤ p ∧ (p : ℤ) < f (l + 1) := by
  have mono : ∀ b ≤ 256, ∀ a ≤ b, f a ≤ f b := by
    intro b
    induction b with
    | zero => intro _ a ha; rw [Nat.le_zero.1 ha]
    | succ b ih =>
      intro hb a ha
      rcases Nat.lt_or_ge a (b + 1) with h1 | h1
      · exact (ih (by omega) a (by omega)).trans (hf b (by omega))
      · rw [Nat.le_antisymm ha h1]
  constructor
  · by_contra hc
    have hl0 : l ≠ 0 := by rintro rfl; rw [h0] at hc; omega
    have hs : Finset.univ.filter (fun b : Fin 256 => f (1 + b.val) ≤ (p : ℤ)) ⊆ Finset.univ.filter (fun b : Fin 256 => b.val < l - 1) := by
      intro b hb
      rw [Finset.mem_filter] at hb ⊢
      refine ⟨Finset.mem_univ _, ?_⟩
      by_contra hh
      have := mono (1 + b.val) (by omega) l (by omega)
      omega
    have hc1 := Finset.card_le_card hs
    rw [h, Fin.card_filter_val_lt] at hc1
    have := Nat.min_le_right 256 (l - 1)
    omega
  · by_contra hc
    have hs : Finset.univ.filter (fun b : Fin 256 => b.val < l + 1) ⊆ Finset.univ.filter (fun b : Fin 256 => f (1 + b.val) ≤ (p : ℤ)) := by
      intro b hb
      rw [Finset.mem_filter] at hb ⊢
      refine ⟨Finset.mem_univ _, ?_⟩
      have := mono (l + 1) (by omega) (1 + b.val) (by omega)
      omega
    have hc1 := Finset.card_le_card hs
    rw [h, Fin.card_filter_val_lt] at hc1
    omega

/-- A bag has no more positions than its bounds are apart. -/
theorem card_bag (a b : ℤ) (S : Finset (Fin 12288)) (h : ∀ p ∈ S, a ≤ (p.val : ℤ) ∧ (p.val : ℤ) < b) : (S.card : ℤ) ≤ max (b - a) 0 := by
  have h1 : S.card ≤ (Finset.Ico a b).card := Finset.card_le_card_of_injOn (fun p => (p.val : ℤ))
    (fun p hp => by simpa using h p hp)
    (fun p _ q _ e => Fin.ext (by have : (p.val : ℤ) = q.val := e; omega))
  rw [Int.card_Ico] at h1
  omega

/-- The signed maximum is at least each of its words. -/
theorem le_fold_max {ι : Type} [DecidableEq ι] (S : Finset ι) (f : ι → BitVec 32) (z : BitVec 32) (i : ι) (hi : i ∈ S) :
    (f i).toInt ≤ (Finset.fold IntOp.maxsi z f S).toInt := by
  have hm : ∀ a b : BitVec 32, a.toInt ≤ (IntOp.maxsi a b).toInt ∧ b.toInt ≤ (IntOp.maxsi a b).toInt := by
    intro a b
    unfold IntOp.maxsi
    split
    · next h => rw [BitVec.slt] at h; simp at h; omega
    · next h => rw [BitVec.slt] at h; simp at h; omega
  induction S using Finset.induction_on with
  | empty => exact absurd hi (Finset.notMem_empty _)
  | insert a S ha ih =>
    rw [Finset.fold_insert ha]
    rcases Finset.mem_insert.1 hi with rfl | h
    · exact (hm _ _).1
    · exact (ih h).trans (hm _ _).2

end Cert.KernelIdeal.Tie

end
-- ==== Proof.Tie.lean ====
module

public import proofs.«01_k».proof.Proof.Words
public import Idealize.ShloMosaic.Lib.Tactic

@[expose] public section

set_option maxRecDepth 16384

noncomputable section

namespace Cert.KernelIdeal.Tie

open Cert.KernelIdeal Cert.KernelIdeal.Gen Idealize.ShloMosaic Idealize.ShloMosaic.TcCoe Idealize.SL.Sem
open Cert.Pre_pre.Decode Cert.KernelIdeal.Value Cert.ReferenceIdeal.Read
open Idealize.ShloMosaic.StableHlo.Predicate (toInt_ofNat_small)

/-! ## The regrouping over the reals -/

/-- Summing a code's weight over the positions of a bag is summing, over the codes, the weight times the number of those positions with the code. -/
theorem regroup (seg code : Fin 12288 → BitVec 32) (ci : Fin 12288 → Fin 256) (hci : ∀ p k, ci p = k ↔ code p = BitVec.ofNat 32 k.val)
    (l : BitVec 32) (g : Fin 256 → ℝ) :
    ∑ p : Fin 12288, (if seg p = l then g (ci p) else 0) = ∑ k : Fin 256, g k * (NUM seg code l (BitVec.ofNat 32 k.val) : ℝ) := by
  have e : ∀ k : Fin 256, g k * (NUM seg code l (BitVec.ofNat 32 k.val) : ℝ) = ∑ p : Fin 12288, if seg p = l ∧ ci p = k then g k else 0 := fun k => by
    unfold NUM
    rw [← Finset.sum_boole, Finset.mul_sum]
    refine Finset.sum_congr rfl fun p _ => ?_
    rw [if_congr (and_congr Iff.rfl (hci p k)) rfl rfl]
    split <;> simp
  rw [Finset.sum_congr rfl fun k _ => e k, Finset.sum_comm]
  refine Finset.sum_congr rfl fun p _ => ?_
  by_cases h : seg p = l
  · simp [h]
  · simp [h]

/-- The two bytes of a count give back the count, and below 256 the low byte is all of it. -/
theorem bytes (g : Fin 256 → ℝ) (N : Fin 256 → ℕ) (P : Prop) [Decidable P] (hP : ¬ P → ∀ k, N k < 256) :
    (∑ k : Fin 256, ((g k : ℝ) : EReal) * (((N k % 256 : ℕ) : ℝ) : EReal))
      + (if P then ∑ k : Fin 256, ((g k : ℝ) : EReal) * (((N k / 256 * 256 : ℕ) : ℝ) : EReal) else 0)
      = ((∑ k : Fin 256, g k * (N k : ℝ) : ℝ) : EReal) := by
  have c1 : ∀ F : Fin 256 → ℕ, ∑ k : Fin 256, ((g k : ℝ) : EReal) * (((F k : ℕ) : ℝ) : EReal) = ((∑ k : Fin 256, g k * (F k : ℝ) : ℝ) : EReal) := fun F => by
    rw [← coe_sum]
    exact Finset.sum_congr rfl fun k _ => (EReal.coe_mul _ _).symm
  rw [c1 fun k => N k % 256, c1 fun k => N k / 256 * 256]
  by_cases h : P
  · rw [if_pos h, ← EReal.coe_add, ← Finset.sum_add_distrib]
    refine congrArg _ (Finset.sum_congr rfl fun k _ => ?_)
    rw [← mul_add, ← Nat.cast_add, show N k % 256 + N k / 256 * 256 = N k by omega]
  · rw [if_neg h, add_zero]
    refine congrArg _ (Finset.sum_congr rfl fun k _ => ?_)
    rw [Nat.mod_eq_of_lt (hP h k)]

/-! ## The kernel's value against the reference's -/

section
variable [Cert.Pre_pre.Facts] (m : (ℓ : Loc nD τ sig) → Buf (Elt Ideal) ℓ) (c : Dev nD)

/-- The precondition at the kernel's arguments. -/
def PRE : Prop := Cert.Pre_pre.fn (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) = (fun _ => 1#1)

/-- The reference's bag word of a position. -/
def SG (p : Fin 12288) : BitVec 32 := SEG (m ((c : Thread nD τ).loc main_arg4)) p

/-- The reference's code word of a position in a subspace. -/
def CD (s : Fin 24) (p : Fin 12288) : BitVec 32 := CODE (m ((c : Thread nD τ).loc main_arg0)) (m ((c : Thread nD τ).loc main_arg3)) p s

variable {m c} (h : PRE m c)
include h

/-- The packed counts hold the number of a bag's positions with a code. -/
theorem hw_num (s : Fin 24) (l k : Fin 256) :
    (HW (WORD m c s l k) l).toNat = NUM (SG m c) (CD m c s) (BitVec.ofNat 32 l.val) (BitVec.ofNat 32 k.val) :=
  HW_num _ _ _ (((decode _ _ _ _ _ _ h).1 s l k).trans (sum_ind (SG m c) (CD m c s) _ _))

/-- The scaled codewords are finite. -/
theorem cw_fin (s : Fin 24) (d : Fin 96) (k : Fin 256) : ∃ g : ℝ, CW m c s d k = (g : EReal) := by
  obtain ⟨h1, h2⟩ := (decode _ _ _ _ _ _ h).2.2.2 s k
  have hy : ∃ y : ℝ, (m ((c : Thread nD τ).loc main_arg2) (ix2 s k) : EReal) = (y : EReal) := ⟨_, (EReal.coe_toReal h1 h2).symm⟩
  obtain ⟨y, hy⟩ := hy
  refine ⟨((m ((c : Thread nD τ).loc main_arg1) (ix3 s k d) : BitVec 8).toInt : ℝ) * y, ?_⟩
  unfold CW
  rw [EReal.coe_mul, ← hy]
  rfl

/-- A bag has at most as many positions as the longest bag. -/
theorem num_le (s : Fin 24) (l k : Fin 256) : (NUM (SG m c) (CD m c s) (BitVec.ofNat 32 l.val) (BitVec.ofNat 32 k.val) : ℤ) ≤ (LG m c).toInt := by
  obtain ⟨-, h0, hs, -⟩ := decode _ _ _ _ _ _ h
  let f : ℕ → ℤ := fun b => if hb : b < 257 then (OFF m c ⟨b, hb⟩).toInt else 0
  have hf : ∀ b (hb : b < 257), f b = (OFF m c ⟨b, hb⟩).toInt := fun b hb => dif_pos hb
  have hf0 : f 0 = 0 := (hf 0 (by omega)).trans (by
    show (m ((c : Thread nD τ).loc main_arg4) (ix1 0)).toInt = 0
    rw [h0]; rfl)
  have hfm : ∀ b < 256, f b ≤ f (b + 1) := fun b hb => by
    rw [hf b (by omega), hf (b + 1) (by omega)]
    have := hs ⟨b, hb⟩
    simp only [Nat.add_comm 1 b] at this
    exact this
  have hpos : ∀ b ≤ 256, 0 ≤ f b := by
    intro b
    induction b with
    | zero => intro _; rw [hf0]
    | succ b ih => intro hb; exact (ih (by omega)).trans (hfm b (by omega))
  have hl := l.isLt
  have hmax := le_fold_max Finset.univ (fun x : Fin 256 => IntOp.subi (OFF m c ⟨1 + x.val, by omega⟩) (OFF m c ⟨x.val, by omega⟩)) 2147483648#32 l (Finset.mem_univ _)
  have hsub : (IntOp.subi (OFF m c ⟨1 + l.val, by omega⟩) (OFF m c ⟨l.val, by omega⟩)).toInt = f (l.val + 1) - f l.val := by
    have e1 := hf (l.val + 1) (by omega)
    have e2 := hf l.val (by omega)
    have p1 := hpos (l.val + 1) (by omega)
    have p2 := hpos l.val (by omega)
    have p3 := hfm l.val hl
    simp only [Nat.add_comm 1 l.val]
    show (OFF m c ⟨l.val + 1, by omega⟩ - OFF m c ⟨l.val, by omega⟩).toInt = _
    rw [e1, e2] at *
    generalize OFF m c ⟨l.val + 1, by omega⟩ = A at *
    generalize OFF m c ⟨l.val, by omega⟩ = B at *
    have := A.toInt_lt
    rw [BitVec.toInt_sub, Int.bmod_eq_of_le] <;> omega
  have hS : ((Finset.univ.filter (fun p => SG m c p = BitVec.ofNat 32 l.val ∧ CD m c s p = BitVec.ofNat 32 k.val)).card : ℤ) ≤ max (f (l.val + 1) - f l.val) 0 := by
    refine card_bag _ _ _ fun p hp => ?_
    have hp1 := (Finset.mem_filter.1 hp).2.1
    rw [SG, SEG_at] at hp1
    refine in_bag f hfm hf0 p.val l.val hl ?_
    have hn : ((Finset.univ.filter (fun b : Fin 256 => f (1 + b.val) ≤ (p.val : ℤ))).card) ≤ 256 := (Finset.card_le_univ _).trans (by simp)
    have he : (Finset.univ.filter (fun b : Fin 256 => f (1 + b.val) ≤ (p.val : ℤ))) = (Finset.univ.filter (fun b : Fin 256 => (m ((c : Thread nD τ).loc main_arg4) (ix1 ⟨1 + b.val, by omega⟩)).toInt ≤ (p.val : ℤ))) :=
      Finset.filter_congr fun b _ => by rw [hf (1 + b.val) (by omega)]; exact Iff.rfl
    rw [← he] at hp1
    have := congrArg BitVec.toNat hp1
    rw [BitVec.toNat_ofNat, BitVec.toNat_ofNat, Nat.mod_eq_of_lt (by omega), Nat.mod_eq_of_lt (by omega)] at this
    exact this
  have h3 := hfm l.val hl
  rw [hsub] at hmax
  unfold NUM LG
  omega

/-- At every index the kernel's result is the reference's sum over the positions of the bag. -/
theorem kv_eq (s : Fin 24) (d : Fin 96) (l : Fin 256) :
    KV m c s d l = ∑ p : Fin 12288, if (SG m c p).toInt = (l.val : ℤ) then CW m c s d (CI (m ((c : Thread nD τ).loc main_arg0)) (m ((c : Thread nD τ).loc main_arg3)) p s) else 0 := by
  choose g hg using cw_fin h s d
  have hl := l.isLt
  have hsg : ∀ p, (SG m c p).toInt = (l.val : ℤ) ↔ SG m c p = BitVec.ofNat 32 l.val := fun p => by
    rw [← toInt_ofNat_small l.val (by omega)]
    exact ⟨fun e => BitVec.eq_of_toInt_eq e, fun e => congrArg _ e⟩
  have hci : ∀ p k, CI (m ((c : Thread nD τ).loc main_arg0)) (m ((c : Thread nD τ).loc main_arg3)) p s = k ↔ CD m c s p = BitVec.ofNat 32 k.val := fun p k => by
    have hk := k.isLt
    constructor
    · rintro rfl
      exact ofNat_code _ _ p s
    · intro e
      apply Fin.ext
      show (CD m c s p).toNat = k.val
      rw [e, BitVec.toNat_ofNat, Nat.mod_eq_of_lt (by omega)]
  have hr : (∑ p : Fin 12288, if (SG m c p).toInt = (l.val : ℤ) then CW m c s d (CI (m ((c : Thread nD τ).loc main_arg0)) (m ((c : Thread nD τ).loc main_arg3)) p s) else 0)
      = ((∑ k : Fin 256, g k * (NUM (SG m c) (CD m c s) (BitVec.ofNat 32 l.val) (BitVec.ofNat 32 k.val) : ℝ) : ℝ) : EReal) := by
    rw [← regroup (SG m c) (CD m c s) _ hci, ← coe_sum]
    refine Finset.sum_congr rfl fun p _ => ?_
    rw [if_congr (hsg p) rfl rfl, hg]
    split <;> rfl
  rw [hr, ← bytes g (fun k => NUM (SG m c) (CD m c s) (BitVec.ofNat 32 l.val) (BitVec.ofNat 32 k.val))
    ((Scalar.cmpi .ne (Scalar.extui (Scalar.cmpi .sge (LG m c) 256#32)) 0#32) = 1#1) ?_]
  · unfold KV
    have e1 : ∀ k, CW m c s d k * CN 255#32 (WORD m c s l k) l = (g k : EReal) * (((NUM (SG m c) (CD m c s) (BitVec.ofNat 32 l.val) (BitVec.ofNat 32 k.val) % 256 : ℕ) : ℝ) : EReal) := fun k => by
      rw [CN_lo, hw_num h, hg]
    have e2 : ∀ k, CW m c s d k * CN 65280#32 (WORD m c s l k) l = (g k : EReal) * (((NUM (SG m c) (CD m c s) (BitVec.ofNat 32 l.val) (BitVec.ofNat 32 k.val) / 256 * 256 : ℕ) : ℝ) : EReal) := fun k => by
      rw [CN_hi, hw_num h, hg]
    rw [Finset.sum_congr rfl fun k _ => e1 k, Finset.sum_congr rfl fun k _ => e2 k]
  · intro hc k
    have hn := num_le h s l k
    have hlt : (LG m c).toInt < 256 := by
      by_contra hge
      apply hc
      have e : Scalar.cmpi .sge (LG m c) 256#32 = 1#1 := by
        show BitVec.ofBool (BitVec.sle 256#32 (LG m c)) = 1#1
        rw [BitVec.sle, decide_eq_true (by show (256#32 : BitVec 32).toInt ≤ _; rw [show (256#32 : BitVec 32).toInt = 256 from rfl]; omega)]
        rfl
      rw [e]
      rfl
    show NUM _ _ _ _ < 256
    omega

/-- The kernel's result array is the reference's. -/
theorem kout_eq : KOUT m c = val_main_v52 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) := by
  funext j
  rw [← ix2_eta j]
  exact (kv_eq h _ _ _).trans (v52_at _ _ _ _ _ _ _).symm

end

end Cert.KernelIdeal.Tie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pre
public import proofs.«01_k».proof.Proof.Gen.KernelIdeal.Value
public import proofs.«01_k».proof.Proof.Gen.ReferenceIdeal.Run
public import proofs.«01_k».proof.Proof.Gen.ReferenceIdeal.Read
public import proofs.«01_k».proof.Proof.Tie
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_pre.Gen.facts

/-- The reference runs, keeps its arguments, and has every semaphore counter at zero at the end: it has no semaphore. -/
theorem frame_ri : Cert.quiescent_ReferenceIdeal := fun m g _ =>
  (θ_run (Cert.ReferenceIdeal.defs (F := Ideal)) _ _).mono (fun r h => ⟨fun c => (h c).2, sem_eq_zero_of_no_sems rfl r.2⟩) (Cert.ReferenceIdeal.Value.run m g)

/-- The same under the precondition. -/
theorem frame_ri_pre : Cert.quiescent_ReferenceIdeal_pre_pre := fun m g _ => frame_ri m g trivial

/-- The kernel and the reference, from memories that agree on the arguments and meet the precondition, end with the same result array. -/
theorem algebraic : Cert.algebraic_KernelIdeal_ReferenceIdeal_pre_pre := by
  intro m g m' g' hpre hagree
  refine ⟨fun c => Cert.KernelIdeal.Value.KOUT m c, ?_, ?_⟩
  · refine (θ_run _ _ _).mono (fun r h c => ⟨(h c).1.trans (Cert.KernelIdeal.Value.arr_eq m c fun s d k => ?_), (h c).2⟩) (Cert.KernelIdeal.Value.run_blocks m g)
    obtain ⟨y, hy⟩ := Cert.KernelIdeal.Tie.cw_fin (hpre c) s d k
    rw [hy]
    exact ⟨EReal.coe_ne_top y, EReal.coe_ne_bot y⟩
  · refine (θ_run _ _ _).mono (fun r h c => ⟨(h c).1.trans ?_, (h c).2⟩) (Cert.ReferenceIdeal.Value.run m' g')
    obtain ⟨e0, e1, e2, e3, e4, -⟩ := hagree c
    rw [Cert.ReferenceIdeal.Read.val_main_v52_eq, e0, e1, e2, e3, e4]
    exact (Cert.KernelIdeal.Tie.kout_eq (hpre c)).symm

theorem claim : Cert.Claim := ⟨Cert.Kernel.Gen.facts, Cert.KernelIdeal.Gen.facts, Cert.ReferenceIdeal.Gen.facts, Cert.Pre_pre.Gen.facts,
  fun m ρ _ => Cert.Kernel.Gen.frame m ρ, fun m ρ _ => Cert.KernelIdeal.Gen.frame m ρ, fun m ρ _ => Cert.KernelIdeal.Gen.frame m ρ,
  frame_ri, frame_ri_pre, trivial, algebraic⟩

end Cert.Proof

end
